-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v476) = v0 c
          ∧ r.2.mem ((c.tc : Thread Cert.ReferenceIdeal.nD Cert.ReferenceIdeal.τ).loc Cert.ReferenceIdeal.main_v455) = v1 c
          ∧ r.2.mem ((c.tc : Thread Cert.ReferenceIdeal.nD Cert.ReferenceIdeal.τ).loc Cert.ReferenceIdeal.main_v458) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x512x512 : Shape := ⟨4, ![16, 1, 512, 512]⟩
abbrev S16x64x8x64x8 : Shape := ⟨5, ![16, 64, 8, 64, 8]⟩
abbrev S16x8x8x64x64 : Shape := ⟨5, ![16, 8, 8, 64, 64]⟩
abbrev S16x64x8x512 : Shape := ⟨4, ![16, 64, 8, 512]⟩
abbrev S16x8x512 : Shape := ⟨3, ![16, 8, 512]⟩
abbrev S1x64x8x512 : Shape := ⟨4, ![1, 64, 8, 512]⟩
abbrev S1x8x512 : Shape := ⟨3, ![1, 8, 512]⟩
abbrev S64x8x512 : Shape := ⟨3, ![64, 8, 512]⟩
abbrev S8x512 : Shape := ⟨2, ![8, 512]⟩
abbrev S16x64x64 : Shape := ⟨3, ![16, 64, 64]⟩
abbrev S16x64x64x1 : Shape := ⟨4, ![16, 64, 64, 1]⟩
abbrev S16x64x64x2 : Shape := ⟨4, ![16, 64, 64, 2]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S16x1x512x512, .f32⟩
  | .hbm, ⟨1, _⟩ => ⟨S16x64x8x64x8, .f32⟩
  | .hbm, ⟨2, _⟩ => ⟨S16x8x8x64x64, .f32⟩
  | .hbm, ⟨3, _⟩ => ⟨S16x64x8x512, .f32⟩
  | .hbm, ⟨4, _⟩ => ⟨S16x8x512, .f32⟩
  | .hbm, ⟨5, _⟩ => ⟨S16x8x512, .f32⟩
  | .hbm, ⟨6, _⟩ => ⟨S16x8x512, .f32⟩
  | .hbm, ⟨7, _⟩ => ⟨S16x8x512, .f32⟩
  | .hbm, ⟨8, _⟩ => ⟨S16x64x64, .f32⟩
  | .hbm, ⟨9, _⟩ => ⟨S16x64x64, .f32⟩
  | .hbm, ⟨10, _⟩ => ⟨S16x64x64, .f32⟩
  | .hbm, ⟨11, _⟩ => ⟨S16x64x64, .f32⟩
  | .hbm, ⟨12, _⟩ => ⟨S16x64x64x1, .f32⟩
  | .hbm, ⟨13, _⟩ => ⟨S16x64x64x1, .f32⟩
  | .hbm, ⟨14, _⟩ => ⟨S16x64x64x2, .f32⟩
  | .hbm, ⟨15, _⟩ => ⟨S_, .f32⟩
  | .hbm, ⟨16, _⟩ => ⟨S16x64x64, .f32⟩
  | .hbm, ⟨17, _⟩ => ⟨S16x64x64, .i1⟩
  | .local _ .vmem, ⟨0, _⟩ => ⟨S1x64x8x512, .f32⟩
  | .local _ .vmem, ⟨1, _⟩ => ⟨S1x64x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v3_3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1x512x512 : Shape := ⟨4, ![16, 1, 512, 512]⟩
abbrev S_ : Shape := ⟨0, ![]⟩
abbrev S16x1x64x8x64x8 : Shape := ⟨6, ![16, 1, 64, 8, 64, 8]⟩
abbrev S16x1x64x64x8x8 : Shape := ⟨6, ![16, 1, 64, 64, 8, 8]⟩
abbrev S16x1x64x64x64 : Shape := ⟨5, ![16, 1, 64, 64, 64]⟩
abbrev S16x1x64x64x1 : Shape := ⟨5, ![16, 1, 64, 64, 1]⟩
abbrev S16x1x64x64 : Shape := ⟨4, ![16, 1, 64, 64]⟩
abbrev S16x64x64x1x1 : Shape := ⟨5, ![16, 64, 64, 1, 1]⟩
abbrev S1 : Shape := ⟨1, ![1]⟩
abbrev S1x1x1x1x1 : Shape := ⟨5, ![1, 1, 1, 1, 1]⟩
abbrev S16x64x64x1 : Shape := ⟨4, ![16, 64, 64, 1]⟩
abbrev S16x64x64 : Shape := ⟨3, ![16, 64, 64]⟩
abbrev S512 : Shape := ⟨1, ![512]⟩
abbrev S512x512 : Shape := ⟨2, ![512, 512]⟩
abbrev S1x512x512 : Shape := ⟨3, ![1, 512, 512]⟩
abbrev S2x512x512 : Shape := ⟨3, ![2, 512, 512]⟩
abbrev S1x2x512x512 : Shape := ⟨4, ![1, 2, 512, 512]⟩
abbrev S16x2x512x512 : Shape := ⟨4, ![16, 2, 512, 512]⟩
abbrev S16x2x64x8x64x8 : Shape := ⟨6, ![16, 2, 64, 8, 64, 8]⟩
abbrev S16x2x64x64x8x8 : Shape := ⟨6, ![16, 2, 64, 64, 8, 8]⟩
abbrev S16x2x64x64x64 : Shape := ⟨5, ![16, 2, 64, 64, 64]⟩
abbrev S16x2x64x64 : Shape := ⟨4, ![16, 2, 64, 64]⟩
abbrev S16x2x64x64x1 : Shape := ⟨5, ![16, 2, 64, 64, 1]⟩
abbrev S16x2x64x64x1x1 : Shape := ⟨6, ![16, 2, 64, 64, 1, 1]⟩
abbrev S1x1x1x1x1x1 : Shape := ⟨6, ![1, 1, 1, 1, 1, 1]⟩
abbrev S16x64x64x2 : Shape := ⟨4, ![16, 64, 64, 2]⟩

abbrev nBuf : Space → Nat
  | .hbm => 712
  | .vmem => 0
  | .smem => 0
  | _ => 0

abbrev hbmTy0_0 (i : Nat) : BufTy := match i % 128 with
  | 0 => ⟨S16x1x512x512, .f32⟩
  | 1 => ⟨S_, .i32⟩
  | 2 => ⟨S_, .i32⟩
  | 3 => ⟨S_, .i32⟩
  | 4 => ⟨S_, .i32⟩
  | 5 => ⟨S16x1x64x8x64x8, .f32⟩
  | 6 => ⟨S16x1x64x64x8x8, .f32⟩
  | 7 => ⟨S16x1x64x64x64, .f32⟩
  | 8 => ⟨S16x1x64x64x64, .i64⟩
  | 9 => ⟨S16x1x64x64x64, .i64⟩
  | 10 => ⟨S16x1x64x64x64, .i64⟩
  | 11 => ⟨S16x1x64x64x64, .i64⟩
  | 12 => ⟨S16x1x64x64x64, .i64⟩
  | 13 => ⟨S_, .i64⟩
  | 14 => ⟨S16x1x64x64x64, .i64⟩
  | 15 => ⟨S16x1x64x64x64, .i64⟩
  | 16 => ⟨S_, .i64⟩
  | 17 => ⟨S16x1x64x64x64, .i64⟩
  | 18 => ⟨S16x1x64x64x64, .i64⟩
  | 19 => ⟨S_, .i64⟩
  | 20 => ⟨S16x1x64x64x64, .i64⟩
  | 21 => ⟨S16x1x64x64x64, .i64⟩
  | 22 => ⟨S_, .i64⟩
  | 23 => ⟨S16x1x64x64x64, .i64⟩
  | 24 => ⟨S16x1x64x64x64, .i64⟩
  | 25 => ⟨S_, .i64⟩
  | 26 => ⟨S16x1x64x64x64, .i64⟩
  | 27 => ⟨S16x1x64x64x64, .i64⟩
  | 28 => ⟨S16x1x64x64x64, .i64⟩
  | 29 => ⟨S16x1x64x64x64, .i64⟩
  | 30 => ⟨S16x1x64x64x64, .i64⟩
  | 31 => ⟨S16x1x64x64x64, .i64⟩
  | 32 => ⟨S_, .i64⟩
  | 33 => ⟨S16x1x64x64x64, .i64⟩
  | 34 => ⟨S16x1x64x64x64, .i64⟩
  | 35 => ⟨S16x1x64x64x64, .i32⟩
  | 36 => ⟨S16x1x64x64x64, .i32⟩
  | 37 => ⟨S_, .i32⟩
  | 38 => ⟨S_, .i32⟩
  | 39 => ⟨S_, .i32⟩
  | 40 => ⟨S16x1x64x64x64, .i32⟩
  | 41 => ⟨S16x1x64x64x64, .i32⟩
  | 42 => ⟨S16x1x64x64x64, .i32⟩
  | 43 => ⟨S16x1x64x64x64, .i32⟩
  | 44 => ⟨S16x1x64x64x64, .i32⟩
  | 45 => ⟨S_, .i32⟩
  | 46 => ⟨S16x1x64x64x64, .i32⟩
  | 47 => ⟨S16x1x64x64x64, .i32⟩
  | 48 => ⟨S_, .i32⟩
  | 49 => ⟨S16x1x64x64x64, .i32⟩
  | 50 => ⟨S16x1x64x64x64, .i32⟩
  | 51 => ⟨S16x1x64x64x64, .i32⟩
  | 52 => ⟨S16x1x64x64x64, .i32⟩
  | 53 => ⟨S16x1x64x64x64, .i32⟩
  | 54 => ⟨S_, .i32⟩
  | 55 => ⟨S16x1x64x64x64, .i32⟩
  | 56 => ⟨S16x1x64x64x64, .i32⟩
  | 57 => ⟨S_, .i32⟩
  | 58 => ⟨S16x1x64x64x64, .i32⟩
  | 59 => ⟨S16x1x64x64x64, .i32⟩
  | 60 => ⟨S16x1x64x64x64, .i32⟩
  | 61 => ⟨S16x1x64x64x64, .i32⟩
  | 62 => ⟨S16x1x64x64x64, .i32⟩
  | 63 => ⟨S_, .i32⟩
  | 64 => ⟨S16x1x64x64x64, .i32⟩
  | 65 => ⟨S16x1x64x64x64, .i32⟩
  | 66 => ⟨S_, .i32⟩
  | 67 => ⟨S16x1x64x64x64, .i32⟩
  | 68 => ⟨S16x1x64x64x64, .i32⟩
  | 69 => ⟨S16x1x64x64x64, .i32⟩
  | 70 => ⟨S16x1x64x64x64, .i32⟩
  | 71 => ⟨S16x1x64x64x64, .i32⟩
  | 72 => ⟨S_, .i32⟩
  | 73 => ⟨S16x1x64x64x64, .i32⟩
  | 74 => ⟨S16x1x64x64x64, .i32⟩
  | 75 => ⟨S_, .i32⟩
  | 76 => ⟨S16x1x64x64x64, .i32⟩
  | 77 => ⟨S16x1x64x64x64, .i32⟩
  | 78 => ⟨S16x1x64x64x64, .i32⟩
  | 79 => ⟨S16x1x64x64x64, .i32⟩
  | 80 => ⟨S16x1x64x64x64, .i32⟩
  | 81 => ⟨S16x1x64x64x64, .i32⟩
  | 82 => ⟨S16x1x64x64x64, .i32⟩
  | 83 => ⟨S16x1x64x64x64, .i32⟩
  | 84 => ⟨S_, .i32⟩
  | 85 => ⟨S16x1x64x64x64, .i32⟩
  | 86 => ⟨S16x1x64x64x64, .i32⟩
  | 87 => ⟨S16x1x64x64x64, .i32⟩
  | 88 => ⟨S_, .i32⟩
  | 89 => ⟨S16x1x64x64x64, .i32⟩
  | 90 => ⟨S16x1x64x64x64, .i32⟩
  | 91 => ⟨S_, .i32⟩
  | 92 => ⟨S16x1x64x64x64, .i32⟩
  | 93 => ⟨S16x1x64x64x64, .i32⟩
  | 94 => ⟨S16x1x64x64x64, .i32⟩
  | 95 => ⟨S16x1x64x64x64, .i32⟩
  | 96 => ⟨S16x1x64x64x64, .i32⟩
  | 97 => ⟨S_, .i32⟩
  | 98 => ⟨S16x1x64x64x64, .i32⟩
  | 99 => ⟨S16x1x64x64x64, .i32⟩
  | 100 => ⟨S_, .i32⟩
  | 101 => ⟨S16x1x64x64x64, .i32⟩
  | 102 => ⟨S16x1x64x64x64, .i32⟩
  | 103 => ⟨S16x1x64x64x64, .i32⟩
  | 104 => ⟨S16x1x64x64x64, .i32⟩
  | 105 => ⟨S16x1x64x64x64, .i32⟩
  | 106 => ⟨S_, .i32⟩
  | 107 => ⟨S16x1x64x64x64, .i32⟩
  | 108 => ⟨S16x1x64x64x64, .i32⟩
  | 109 => ⟨S_, .i32⟩
  | 110 => ⟨S16x1x64x64x64, .i32⟩
  | 111 => ⟨S16x1x64x64x64, .i32⟩
  | 112 => ⟨S16x1x64x64x64, .i32⟩
  | 113 => ⟨S16x1x64x64x64, .i32⟩
  | 114 => ⟨S16x1x64x64x64, .i32⟩
  | 115 => ⟨S_, .i32⟩
  | 116 => ⟨S16x1x64x64x64, .i32⟩
  | 117 => ⟨S16x1x64x64x64, .i32⟩
  | 118 => ⟨S_, .i32⟩
  | 119 => ⟨S16x1x64x64x64, .i32⟩
  | 120 => ⟨S16x1x64x64x64, .i32⟩
  | 121 => ⟨S16x1x64x64x64, .i32⟩
  | 122 => ⟨S16x1x64x64x64, .i32⟩
  | 123 => ⟨S16x1x64x64x64, .i32⟩
  | 124 => ⟨S16x1x64x64x64, .i32⟩
  | 125 => ⟨S16x1x64x64x64, .i32⟩
  | 126 => ⟨S16x1x64x64x64, .i32⟩
  | 127 => ⟨S_, .i32⟩
  | _ => ⟨S16x1x512x512, .f32⟩

abbrev hbmTy0_1 (i : Nat) : BufTy := match i % 128 with
  | 0 => ⟨S16x1x64x64x64, .i32⟩
  | 1 => ⟨S16x1x64x64x64, .i32⟩
  | 2 => ⟨S16x1x64x64x64, .i32⟩
  | 3 => ⟨S_, .i32⟩
  | 4 => ⟨S16x1x64x64x64, .i32⟩
  | 5 => ⟨S16x1x64x64x64, .i32⟩
  | 6 => ⟨S_, .i32⟩
  | 7 => ⟨S16x1x64x64x64, .i32⟩
  | 8 => ⟨S16x1x64x64x64, .i32⟩
  | 9 => ⟨S16x1x64x64x64, .i32⟩
  | 10 => ⟨S16x1x64x64x64, .i32⟩
  | 11 => ⟨S16x1x64x64x64, .i32⟩
  | 12 => ⟨S_, .i32⟩
  | 13 => ⟨S16x1x64x64x64, .i32⟩
  | 14 => ⟨S16x1x64x64x64, .i32⟩
  | 15 => ⟨S_, .i32⟩
  | 16 => ⟨S16x1x64x64x64, .i32⟩
  | 17 => ⟨S16x1x64x64x64, .i32⟩
  | 18 => ⟨S16x1x64x64x64, .i32⟩
  | 19 => ⟨S16x1x64x64x64, .i32⟩
  | 20 => ⟨S16x1x64x64x64, .i32⟩
  | 21 => ⟨S_, .i32⟩
  | 22 => ⟨S16x1x64x64x64, .i32⟩
  | 23 => ⟨S16x1x64x64x64, .i32⟩
  | 24 => ⟨S_, .i32⟩
  | 25 => ⟨S16x1x64x64x64, .i32⟩
  | 26 => ⟨S16x1x64x64x64, .i32⟩
  | 27 => ⟨S16x1x64x64x64, .i32⟩
  | 28 => ⟨S16x1x64x64x64, .i32⟩
  | 29 => ⟨S16x1x64x64x64, .i32⟩
  | 30 => ⟨S_, .i32⟩
  | 31 => ⟨S16x1x64x64x64, .i32⟩
  | 32 => ⟨S16x1x64x64x64, .i32⟩
  | 33 => ⟨S_, .i32⟩
  | 34 => ⟨S16x1x64x64x64, .i32⟩
  | 35 => ⟨S16x1x64x64x64, .i32⟩
  | 36 => ⟨S16x1x64x64x64, .i32⟩
  | 37 => ⟨S16x1x64x64x64, .i32⟩
  | 38 => ⟨S16x1x64x64x64, .i32⟩
  | 39 => ⟨S16x1x64x64x64, .i32⟩
  | 40 => ⟨S16x1x64x64x64, .i32⟩
  | 41 => ⟨S16x1x64x64x64, .i32⟩
  | 42 => ⟨S_, .i32⟩
  | 43 => ⟨S16x1x64x64x64, .i32⟩
  | 44 => ⟨S16x1x64x64x64, .i32⟩
  | 45 => ⟨S16x1x64x64x64, .i32⟩
  | 46 => ⟨S_, .i32⟩
  | 47 => ⟨S16x1x64x64x64, .i32⟩
  | 48 => ⟨S16x1x64x64x64, .i32⟩
  | 49 => ⟨S_, .i32⟩
  | 50 => ⟨S16x1x64x64x64, .i32⟩
  | 51 => ⟨S16x1x64x64x64, .i32⟩
  | 52 => ⟨S16x1x64x64x64, .i32⟩
  | 53 => ⟨S16x1x64x64x64, .i32⟩
  | 54 => ⟨S16x1x64x64x64, .i32⟩
  | 55 => ⟨S_, .i32⟩
  | 56 => ⟨S16x1x64x64x64, .i32⟩
  | 57 => ⟨S16x1x64x64x64, .i32⟩
  | 58 => ⟨S_, .i32⟩
  | 59 => ⟨S16x1x64x64x64, .i32⟩
  | 60 => ⟨S16x1x64x64x64, .i32⟩
  | 61 => ⟨S16x1x64x64x64, .i32⟩
  | 62 => ⟨S16x1x64x64x64, .i32⟩
  | 63 => ⟨S16x1x64x64x64, .i32⟩
  | 64 => ⟨S_, .i32⟩
  | 65 => ⟨S16x1x64x64x64, .i32⟩
  | 66 => ⟨S16x1x64x64x64, .i32⟩
  | 67 => ⟨S_, .i32⟩
  | 68 => ⟨S16x1x64x64x64, .i32⟩
  | 69 => ⟨S16x1x64x64x64, .i32⟩
  | 70 => ⟨S16x1x64x64x64, .i32⟩
  | 71 => ⟨S16x1x64x64x64, .i32⟩
  | 72 => ⟨S16x1x64x64x64, .i32⟩
  | 73 => ⟨S_, .i32⟩
  | 74 => ⟨S16x1x64x64x64, .i32⟩
  | 75 => ⟨S16x1x64x64x64, .i32⟩
  | 76 => ⟨S_, .i32⟩
  | 77 => ⟨S16x1x64x64x64, .i32⟩
  | 78 => ⟨S16x1x64x64x64, .i32⟩
  | 79 => ⟨S16x1x64x64x64, .i32⟩
  | 80 => ⟨S16x1x64x64x64, .i32⟩
  | 81 => ⟨S16x1x64x64x64, .i32⟩
  | 82 => ⟨S16x1x64x64x64, .i32⟩
  | 83 => ⟨S16x1x64x64x64, .i32⟩
  | 84 => ⟨S16x1x64x64x64, .i32⟩
  | 85 => ⟨S_, .i32⟩
  | 86 => ⟨S16x1x64x64x64, .i32⟩
  | 87 => ⟨S16x1x64x64x64, .i32⟩
  | 88 => ⟨S16x1x64x64x64, .i32⟩
  | 89 => ⟨S_, .i32⟩
  | 90 => ⟨S16x1x64x64x64, .i32⟩
  | 91 => ⟨S16x1x64x64x64, .i32⟩
  | 92 => ⟨S_, .i32⟩
  | 93 => ⟨S16x1x64x64x64, .i32⟩
  | 94 => ⟨S16x1x64x64x64, .i32⟩
  | 95 => ⟨S16x1x64x64x64, .i32⟩
  | 96 => ⟨S16x1x64x64x64, .i32⟩
  | 97 => ⟨S16x1x64x64x64, .i32⟩
  | 98 => ⟨S_, .i32⟩
  | 99 => ⟨S16x1x64x64x64, .i32⟩
  | 100 => ⟨S16x1x64x64x64, .i32⟩
  | 101 => ⟨S_, .i32⟩
  | 102 => ⟨S16x1x64x64x64, .i32⟩
  | 103 => ⟨S16x1x64x64x64, .i32⟩
  | 104 => ⟨S16x1x64x64x64, .i32⟩
  | 105 => ⟨S16x1x64x64x64, .i32⟩
  | 106 => ⟨S16x1x64x64x64, .i32⟩
  | 107 => ⟨S_, .i32⟩
  | 108 => ⟨S16x1x64x64x64, .i32⟩
  | 109 => ⟨S16x1x64x64x64, .i32⟩
  | 110 => ⟨S_, .i32⟩
  | 111 => ⟨S16x1x64x64x64, .i32⟩
  | 112 => ⟨S16x1x64x64x64, .i32⟩
  | 113 => ⟨S16x1x64x64x64, .i32⟩
  | 114 => ⟨S16x1x64x64x64, .i32⟩
  | 115 => ⟨S16x1x64x64x64, .i32⟩
  | 116 => ⟨S_, .i32⟩
  | 117 => ⟨S16x1x64x64x64, .i32⟩
  | 118 => ⟨S16x1x64x64x64, .i32⟩
  | 119 => ⟨S_, .i32⟩
  | 120 => ⟨S16x1x64x64x64, .i32⟩
  | 121 => ⟨S16x1x64x64x64, .i32⟩
  | 122 => ⟨S16x1x64x64x64, .i32⟩
  | 123 => ⟨S16x1x64x64x64, .i32⟩
  | 124 => ⟨S16x1x64x64x64, .i32⟩
  | 125 => ⟨S16x1x64x64x64, .i32⟩
  | 126 => ⟨S16x1x64x64x64, .i32⟩
  | 127 => ⟨S16x1x64x64x64, .i32⟩
  | _ => ⟨S16x1x512x512, .f32⟩

abbrev hbmTy0_2 (i : Nat) : BufTy := match i % 128 with
  | 0 => ⟨S_, .i32⟩
  | 1 => ⟨S16x1x64x64x64, .i32⟩
  | 2 => ⟨S16x1x64x64x64, .i32⟩
  | 3 => ⟨S16x1x64x64x64, .i32⟩
  | 4 => ⟨S_, .i32⟩
  | 5 => ⟨S16x1x64x64x64, .i32⟩
  | 6 => ⟨S16x1x64x64x64, .i32⟩
  | 7 => ⟨S_, .i32⟩
  | 8 => ⟨S16x1x64x64x64, .i32⟩
  | 9 => ⟨S16x1x64x64x64, .i32⟩
  | 10 => ⟨S16x1x64x64x64, .f32⟩
  | 11 => ⟨S_, .f32⟩
  | 12 => ⟨S16x1x64x64x64, .f32⟩
  | 13 => ⟨S16x1x64x64x64, .f32⟩
  | 14 => ⟨S_, .f32⟩
  | 15 => ⟨S16x1x64x64x64, .f32⟩
  | 16 => ⟨S16x1x64x64x64, .f32⟩
  | 17 => ⟨S_, .f32⟩
  | 18 => ⟨S16x1x64x64x64, .f32⟩
  | 19 => ⟨S16x1x64x64x64, .f32⟩
  | 20 => ⟨S_, .f32⟩
  | 21 => ⟨S16x1x64x64x64, .f32⟩
  | 22 => ⟨S16x1x64x64x64, .f32⟩
  | 23 => ⟨S16x1x64x64x64, .f32⟩
  | 24 => ⟨S16x1x64x64x64, .f32⟩
  | 25 => ⟨S16x1x64x64x64, .f32⟩
  | 26 => ⟨S16x1x64x64x64, .f32⟩
  | 27 => ⟨S16x1x64x64x64, .f32⟩
  | 28 => ⟨S16x1x64x64x1, .f32⟩
  | 29 => ⟨S16x1x64x64x1, .i32⟩
  | 30 => ⟨S16x1x64x64, .i32⟩
  | 31 => ⟨S_, .f32⟩
  | 32 => ⟨S16x1x64x64, .f32⟩
  | 33 => ⟨S_, .f32⟩
  | 34 => ⟨S16x1x64x64, .f32⟩
  | 35 => ⟨S16x1x64x64, .f32⟩
  | 36 => ⟨S16x1x64x64x1, .f32⟩
  | 37 => ⟨S16x1x64x64x64, .f32⟩
  | 38 => ⟨S16x1x64x64x64, .f32⟩
  | 39 => ⟨S16x1x64x64x64, .f32⟩
  | 40 => ⟨S_, .f32⟩
  | 41 => ⟨S16x1x64x64, .f32⟩
  | 42 => ⟨S16x1x64x64x1, .f32⟩
  | 43 => ⟨S16x1x64x64x1, .f32⟩
  | 44 => ⟨S16x1x64x64x64, .f32⟩
  | 45 => ⟨S16x1x64x64x64, .f32⟩
  | 46 => ⟨S16x1x64x64x1, .i32⟩
  | 47 => ⟨S_, .i32⟩
  | 48 => ⟨S16x1x64x64x1, .i32⟩
  | 49 => ⟨S16x1x64x64x1, .i1⟩
  | 50 => ⟨S_, .i32⟩
  | 51 => ⟨S16x1x64x64x1, .i32⟩
  | 52 => ⟨S16x1x64x64x1, .i32⟩
  | 53 => ⟨S16x1x64x64x1, .i32⟩
  | 54 => ⟨S16x64x64x1x1, .i32⟩
  | 55 => ⟨S1, .i32⟩
  | 56 => ⟨S_, .i32⟩
  | 57 => ⟨S16x64x64x1x1, .i32⟩
  | 58 => ⟨S16x64x64x1x1, .i1⟩
  | 59 => ⟨S1x1x1x1x1, .i32⟩
  | 60 => ⟨S16x64x64x1x1, .i32⟩
  | 61 => ⟨S16x64x64x1x1, .i1⟩
  | 62 => ⟨S16x64x64x1x1, .i1⟩
  | 63 => ⟨S_, .i1⟩
  | 64 => ⟨S16x64x64x1, .i1⟩
  | 65 => ⟨S16x1x64x64x1, .f32⟩
  | 66 => ⟨S16x1x64x64x1, .i1⟩
  | 67 => ⟨S_, .f32⟩
  | 68 => ⟨S16x1x64x64x1, .f32⟩
  | 69 => ⟨S16x1x64x64x1, .f32⟩
  | 70 => ⟨S16x1x64x64, .f32⟩
  | 71 => ⟨S16x1x64x64x1, .i32⟩
  | 72 => ⟨S_, .i32⟩
  | 73 => ⟨S16x1x64x64x1, .i32⟩
  | 74 => ⟨S16x1x64x64x1, .i1⟩
  | 75 => ⟨S_, .i32⟩
  | 76 => ⟨S16x1x64x64x1, .i32⟩
  | 77 => ⟨S16x1x64x64x1, .i32⟩
  | 78 => ⟨S16x1x64x64x1, .i32⟩
  | 79 => ⟨S16x64x64x1x1, .i32⟩
  | 80 => ⟨S1, .i32⟩
  | 81 => ⟨S_, .i32⟩
  | 82 => ⟨S16x64x64x1x1, .i32⟩
  | 83 => ⟨S16x64x64x1x1, .i1⟩
  | 84 => ⟨S1x1x1x1x1, .i32⟩
  | 85 => ⟨S16x64x64x1x1, .i32⟩
  | 86 => ⟨S16x64x64x1x1, .i1⟩
  | 87 => ⟨S16x64x64x1x1, .i1⟩
  | 88 => ⟨S_, .i1⟩
  | 89 => ⟨S16x64x64x1, .i1⟩
  | 90 => ⟨S16x1x64x64x1, .f32⟩
  | 91 => ⟨S16x1x64x64x1, .i1⟩
  | 92 => ⟨S_, .f32⟩
  | 93 => ⟨S16x1x64x64x1, .f32⟩
  | 94 => ⟨S16x1x64x64x1, .f32⟩
  | 95 => ⟨S16x1x64x64, .f32⟩
  | 96 => ⟨S16x1x64x64, .f32⟩
  | 97 => ⟨S16x1x64x64, .f32⟩
  | 98 => ⟨S_, .f32⟩
  | 99 => ⟨S16x1x64x64, .f32⟩
  | 100 => ⟨S16x1x64x64, .f32⟩
  | 101 => ⟨S_, .f32⟩
  | 102 => ⟨S16x1x64x64, .f32⟩
  | 103 => ⟨S16x1x64x64, .f32⟩
  | 104 => ⟨S16x1x64x64, .i64⟩
  | 105 => ⟨S16x1x64x64, .i64⟩
  | 106 => ⟨S16x1x64x64, .i64⟩
  | 107 => ⟨S16x1x64x64, .i64⟩
  | 108 => ⟨S_, .i64⟩
  | 109 => ⟨S16x1x64x64, .i64⟩
  | 110 => ⟨S16x1x64x64, .i64⟩
  | 111 => ⟨S_, .i64⟩
  | 112 => ⟨S16x1x64x64, .i64⟩
  | 113 => ⟨S16x1x64x64, .i64⟩
  | 114 => ⟨S_, .i64⟩
  | 115 => ⟨S16x1x64x64, .i64⟩
  | 116 => ⟨S16x1x64x64, .i64⟩
  | 117 => ⟨S_, .i64⟩
  | 118 => ⟨S16x1x64x64, .i64⟩
  | 119 => ⟨S16x1x64x64, .i64⟩
  | 120 => ⟨S16x1x64x64, .i64⟩
  | 121 => ⟨S16x1x64x64, .i64⟩
  | 122 => ⟨S16x1x64x64, .i64⟩
  | 123 => ⟨S_, .i64⟩
  | 124 => ⟨S16x1x64x64, .i64⟩
  | 125 => ⟨S16x1x64x64, .i64⟩
  | 126 => ⟨S16x1x64x64, .i32⟩
  | 127 => ⟨S16x1x64x64, .i32⟩
  | _ => ⟨S16x1x512x512, .f32⟩

abbrev hbmTy0_3 (i : Nat) : BufTy := match i % 128 with
  | 0 => ⟨S_, .i32⟩
  | 1 => ⟨S_, .i32⟩
  | 2 => ⟨S_, .i32⟩
  | 3 => ⟨S16x1x64x64, .i32⟩
  | 4 => ⟨S16x1x64x64, .i32⟩
  | 5 => ⟨S16x1x64x64, .i32⟩
  | 6 => ⟨S16x1x64x64, .i32⟩
  | 7 => ⟨S16x1x64x64, .i32⟩
  | 8 => ⟨S_, .i32⟩
  | 9 => ⟨S16x1x64x64, .i32⟩
  | 10 => ⟨S16x1x64x64, .i32⟩
  | 11 => ⟨S_, .i32⟩
  | 12 => ⟨S16x1x64x64, .i32⟩
  | 13 => ⟨S16x1x64x64, .i32⟩
  | 14 => ⟨S16x1x64x64, .i32⟩
  | 15 => ⟨S16x1x64x64, .i32⟩
  | 16 => ⟨S16x1x64x64, .i32⟩
  | 17 => ⟨S_, .i32⟩
  | 18 => ⟨S16x1x64x64, .i32⟩
  | 19 => ⟨S16x1x64x64, .i32⟩
  | 20 => ⟨S_, .i32⟩
  | 21 => ⟨S16x1x64x64, .i32⟩
  | 22 => ⟨S16x1x64x64, .i32⟩
  | 23 => ⟨S16x1x64x64, .i32⟩
  | 24 => ⟨S16x1x64x64, .i32⟩
  | 25 => ⟨S16x1x64x64, .i32⟩
  | 26 => ⟨S_, .i32⟩
  | 27 => ⟨S16x1x64x64, .i32⟩
  | 28 => ⟨S16x1x64x64, .i32⟩
  | 29 => ⟨S_, .i32⟩
  | 30 => ⟨S16x1x64x64, .i32⟩
  | 31 => ⟨S16x1x64x64, .i32⟩
  | 32 => ⟨S16x1x64x64, .i32⟩
  | 33 => ⟨S16x1x64x64, .i32⟩
  | 34 => ⟨S16x1x64x64, .i32⟩
  | 35 => ⟨S_, .i32⟩
  | 36 => ⟨S16x1x64x64, .i32⟩
  | 37 => ⟨S16x1x64x64, .i32⟩
  | 38 => ⟨S_, .i32⟩
  | 39 => ⟨S16x1x64x64, .i32⟩
  | 40 => ⟨S16x1x64x64, .i32⟩
  | 41 => ⟨S16x1x64x64, .i32⟩
  | 42 => ⟨S16x1x64x64, .i32⟩
  | 43 => ⟨S16x1x64x64, .i32⟩
  | 44 => ⟨S16x1x64x64, .i32⟩
  | 45 => ⟨S16x1x64x64, .i32⟩
  | 46 => ⟨S16x1x64x64, .i32⟩
  | 47 => ⟨S_, .i32⟩
  | 48 => ⟨S16x1x64x64, .i32⟩
  | 49 => ⟨S16x1x64x64, .i32⟩
  | 50 => ⟨S16x1x64x64, .i32⟩
  | 51 => ⟨S_, .i32⟩
  | 52 => ⟨S16x1x64x64, .i32⟩
  | 53 => ⟨S16x1x64x64, .i32⟩
  | 54 => ⟨S_, .i32⟩
  | 55 => ⟨S16x1x64x64, .i32⟩
  | 56 => ⟨S16x1x64x64, .i32⟩
  | 57 => ⟨S16x1x64x64, .i32⟩
  | 58 => ⟨S16x1x64x64, .i32⟩
  | 59 => ⟨S16x1x64x64, .i32⟩
  | 60 => ⟨S_, .i32⟩
  | 61 => ⟨S16x1x64x64, .i32⟩
  | 62 => ⟨S16x1x64x64, .i32⟩
  | 63 => ⟨S_, .i32⟩
  | 64 => ⟨S16x1x64x64, .i32⟩
  | 65 => ⟨S16x1x64x64, .i32⟩
  | 66 => ⟨S16x1x64x64, .i32⟩
  | 67 => ⟨S16x1x64x64, .i32⟩
  | 68 => ⟨S16x1x64x64, .i32⟩
  | 69 => ⟨S_, .i32⟩
  | 70 => ⟨S16x1x64x64, .i32⟩
  | 71 => ⟨S16x1x64x64, .i32⟩
  | 72 => ⟨S_, .i32⟩
  | 73 => ⟨S16x1x64x64, .i32⟩
  | 74 => ⟨S16x1x64x64, .i32⟩
  | 75 => ⟨S16x1x64x64, .i32⟩
  | 76 => ⟨S16x1x64x64, .i32⟩
  | 77 => ⟨S16x1x64x64, .i32⟩
  | 78 => ⟨S_, .i32⟩
  | 79 => ⟨S16x1x64x64, .i32⟩
  | 80 => ⟨S16x1x64x64, .i32⟩
  | 81 => ⟨S_, .i32⟩
  | 82 => ⟨S16x1x64x64, .i32⟩
  | 83 => ⟨S16x1x64x64, .i32⟩
  | 84 => ⟨S16x1x64x64, .i32⟩
  | 85 => ⟨S16x1x64x64, .i32⟩
  | 86 => ⟨S16x1x64x64, .i32⟩
  | 87 => ⟨S16x1x64x64, .i32⟩
  | 88 => ⟨S16x1x64x64, .i32⟩
  | 89 => ⟨S16x1x64x64, .i32⟩
  | 90 => ⟨S_, .i32⟩
  | 91 => ⟨S16x1x64x64, .i32⟩
  | 92 => ⟨S16x1x64x64, .i32⟩
  | 93 => ⟨S16x1x64x64, .i32⟩
  | 94 => ⟨S_, .i32⟩
  | 95 => ⟨S16x1x64x64, .i32⟩
  | 96 => ⟨S16x1x64x64, .i32⟩
  | 97 => ⟨S_, .i32⟩
  | 98 => ⟨S16x1x64x64, .i32⟩
  | 99 => ⟨S16x1x64x64, .i32⟩
  | 100 => ⟨S16x1x64x64, .i32⟩
  | 101 => ⟨S16x1x64x64, .i32⟩
  | 102 => ⟨S16x1x64x64, .i32⟩
  | 103 => ⟨S_, .i32⟩
  | 104 => ⟨S16x1x64x64, .i32⟩
  | 105 => ⟨S16x1x64x64, .i32⟩
  | 106 => ⟨S_, .i32⟩
  | 107 => ⟨S16x1x64x64, .i32⟩
  | 108 => ⟨S16x1x64x64, .i32⟩
  | 109 => ⟨S16x1x64x64, .i32⟩
  | 110 => ⟨S16x1x64x64, .i32⟩
  | 111 => ⟨S16x1x64x64, .i32⟩
  | 112 => ⟨S_, .i32⟩
  | 113 => ⟨S16x1x64x64, .i32⟩
  | 114 => ⟨S16x1x64x64, .i32⟩
  | 115 => ⟨S_, .i32⟩
  | 116 => ⟨S16x1x64x64, .i32⟩
  | 117 => ⟨S16x1x64x64, .i32⟩
  | 118 => ⟨S16x1x64x64, .i32⟩
  | 119 => ⟨S16x1x64x64, .i32⟩
  | 120 => ⟨S16x1x64x64, .i32⟩
  | 121 => ⟨S_, .i32⟩
  | 122 => ⟨S16x1x64x64, .i32⟩
  | 123 => ⟨S16x1x64x64, .i32⟩
  | 124 => ⟨S_, .i32⟩
  | 125 => ⟨S16x1x64x64, .i32⟩
  | 126 => ⟨S16x1x64x64, .i32⟩
  | 127 => ⟨S16x1x64x64, .i32⟩
  | _ => ⟨S16x1x512x512, .f32⟩

abbrev hbmTy0_4 (i : Nat) : BufTy := match i % 128 with
  | 0 => ⟨S16x1x64x64, .i32⟩
  | 1 => ⟨S16x1x64x64, .i32⟩
  | 2 => ⟨S16x1x64x64, .i32⟩
  | 3 => ⟨S16x1x64x64, .i32⟩
  | 4 => ⟨S16x1x64x64, .i32⟩
  | 5 => ⟨S_, .i32⟩
  | 6 => ⟨S16x1x64x64, .i32⟩
  | 7 => ⟨S16x1x64x64, .i32⟩
  | 8 => ⟨S16x1x64x64, .i32⟩
  | 9 => ⟨S_, .i32⟩
  | 10 => ⟨S16x1x64x64, .i32⟩
  | 11 => ⟨S16x1x64x64, .i32⟩
  | 12 => ⟨S_, .i32⟩
  | 13 => ⟨S16x1x64x64, .i32⟩
  | 14 => ⟨S16x1x64x64, .i32⟩
  | 15 => ⟨S16x1x64x64, .i32⟩
  | 16 => ⟨S16x1x64x64, .i32⟩
  | 17 => ⟨S16x1x64x64, .i32⟩
  | 18 => ⟨S_, .i32⟩
  | 19 => ⟨S16x1x64x64, .i32⟩
  | 20 => ⟨S16x1x64x64, .i32⟩
  | 21 => ⟨S_, .i32⟩
  | 22 => ⟨S16x1x64x64, .i32⟩
  | 23 => ⟨S16x1x64x64, .i32⟩
  | 24 => ⟨S16x1x64x64, .i32⟩
  | 25 => ⟨S16x1x64x64, .i32⟩
  | 26 => ⟨S16x1x64x64, .i32⟩
  | 27 => ⟨S_, .i32⟩
  | 28 => ⟨S16x1x64x64, .i32⟩
  | 29 => ⟨S16x1x64x64, .i32⟩
  | 30 => ⟨S_, .i32⟩
  | 31 => ⟨S16x1x64x64, .i32⟩
  | 32 => ⟨S16x1x64x64, .i32⟩
  | 33 => ⟨S16x1x64x64, .i32⟩
  | 34 => ⟨S16x1x64x64, .i32⟩
  | 35 => ⟨S16x1x64x64, .i32⟩
  | 36 => ⟨S_, .i32⟩
  | 37 => ⟨S16x1x64x64, .i32⟩
  | 38 => ⟨S16x1x64x64, .i32⟩
  | 39 => ⟨S_, .i32⟩
  | 40 => ⟨S16x1x64x64, .i32⟩
  | 41 => ⟨S16x1x64x64, .i32⟩
  | 42 => ⟨S16x1x64x64, .i32⟩
  | 43 => ⟨S16x1x64x64, .i32⟩
  | 44 => ⟨S16x1x64x64, .i32⟩
  | 45 => ⟨S16x1x64x64, .i32⟩
  | 46 => ⟨S16x1x64x64, .i32⟩
  | 47 => ⟨S16x1x64x64, .i32⟩
  | 48 => ⟨S_, .i32⟩
  | 49 => ⟨S16x1x64x64, .i32⟩
  | 50 => ⟨S16x1x64x64, .i32⟩
  | 51 => ⟨S16x1x64x64, .i32⟩
  | 52 => ⟨S_, .i32⟩
  | 53 => ⟨S16x1x64x64, .i32⟩
  | 54 => ⟨S16x1x64x64, .i32⟩
  | 55 => ⟨S_, .i32⟩
  | 56 => ⟨S16x1x64x64, .i32⟩
  | 57 => ⟨S16x1x64x64, .i32⟩
  | 58 => ⟨S16x1x64x64, .i32⟩
  | 59 => ⟨S16x1x64x64, .i32⟩
  | 60 => ⟨S16x1x64x64, .i32⟩
  | 61 => ⟨S_, .i32⟩
  | 62 => ⟨S16x1x64x64, .i32⟩
  | 63 => ⟨S16x1x64x64, .i32⟩
  | 64 => ⟨S_, .i32⟩
  | 65 => ⟨S16x1x64x64, .i32⟩
  | 66 => ⟨S16x1x64x64, .i32⟩
  | 67 => ⟨S16x1x64x64, .i32⟩
  | 68 => ⟨S16x1x64x64, .i32⟩
  | 69 => ⟨S16x1x64x64, .i32⟩
  | 70 => ⟨S_, .i32⟩
  | 71 => ⟨S16x1x64x64, .i32⟩
  | 72 => ⟨S16x1x64x64, .i32⟩
  | 73 => ⟨S_, .i32⟩
  | 74 => ⟨S16x1x64x64, .i32⟩
  | 75 => ⟨S16x1x64x64, .i32⟩
  | 76 => ⟨S16x1x64x64, .i32⟩
  | 77 => ⟨S16x1x64x64, .i32⟩
  | 78 => ⟨S16x1x64x64, .i32⟩
  | 79 => ⟨S_, .i32⟩
  | 80 => ⟨S16x1x64x64, .i32⟩
  | 81 => ⟨S16x1x64x64, .i32⟩
  | 82 => ⟨S_, .i32⟩
  | 83 => ⟨S16x1x64x64, .i32⟩
  | 84 => ⟨S16x1x64x64, .i32⟩
  | 85 => ⟨S16x1x64x64, .i32⟩
  | 86 => ⟨S16x1x64x64, .i32⟩
  | 87 => ⟨S16x1x64x64, .i32⟩
  | 88 => ⟨S16x1x64x64, .i32⟩
  | 89 => ⟨S16x1x64x64, .i32⟩
  | 90 => ⟨S16x1x64x64, .i32⟩
  | 91 => ⟨S_, .i32⟩
  | 92 => ⟨S16x1x64x64, .i32⟩
  | 93 => ⟨S16x1x64x64, .i32⟩
  | 94 => ⟨S16x1x64x64, .i32⟩
  | 95 => ⟨S_, .i32⟩
  | 96 => ⟨S16x1x64x64, .i32⟩
  | 97 => ⟨S16x1x64x64, .i32⟩
  | 98 => ⟨S_, .i32⟩
  | 99 => ⟨S16x1x64x64, .i32⟩
  | 100 => ⟨S16x1x64x64, .i32⟩
  | 101 => ⟨S16x1x64x64, .f32⟩
  | 102 => ⟨S_, .f32⟩
  | 103 => ⟨S16x1x64x64, .f32⟩
  | 104 => ⟨S16x1x64x64, .f32⟩
  | 105 => ⟨S_, .f32⟩
  | 106 => ⟨S16x1x64x64, .f32⟩
  | 107 => ⟨S16x1x64x64, .f32⟩
  | 108 => ⟨S_, .f32⟩
  | 109 => ⟨S16x1x64x64, .f32⟩
  | 110 => ⟨S16x1x64x64, .f32⟩
  | 111 => ⟨S_, .f32⟩
  | 112 => ⟨S16x1x64x64, .f32⟩
  | 113 => ⟨S16x1x64x64, .f32⟩
  | 114 => ⟨S16x1x64x64, .i1⟩
  | 115 => ⟨S16x1x64x64, .f32⟩
  | 116 => ⟨S16x1x64x64, .f32⟩
  | 117 => ⟨S_, .f32⟩
  | 118 => ⟨S16x1x64x64, .f32⟩
  | 119 => ⟨S16x1x64x64, .f32⟩
  | 120 => ⟨S16x1x64x64, .f32⟩
  | 121 => ⟨S16x1x64x64, .f32⟩
  | 122 => ⟨S16x1x64x64, .i1⟩
  | 123 => ⟨S16x1x64x64, .f32⟩
  | 124 => ⟨S16x1x64x64, .f32⟩
  | 125 => ⟨S16x1x64x64, .f32⟩
  | 126 => ⟨S16x1x64x64, .f32⟩
  | 127 => ⟨S16x1x64x64, .f32⟩
  | _ => ⟨S16x1x512x512, .f32⟩

abbrev hbmTy0_5 (i : Nat) : BufTy := match i % 128 with
  | 0 => ⟨S16x1x64x64, .f32⟩
  | 1 => ⟨S16x1x64x64, .f32⟩
  | 2 => ⟨S16x1x64x64, .f32⟩
  | 3 => ⟨S16x1x64x64, .f32⟩
  | 4 => ⟨S16x1x64x64, .f32⟩
  | 5 => ⟨S_, .f32⟩
  | 6 => ⟨S16x1x64x64, .f32⟩
  | 7 => ⟨S16x1x64x64, .f32⟩
  | 8 => ⟨S16x1x64x64, .f32⟩
  | 9 => ⟨S16x1x64x64, .f32⟩
  | 10 => ⟨S_, .f32⟩
  | 11 => ⟨S16x1x64x64, .f32⟩
  | 12 => ⟨S16x1x64x64, .f32⟩
  | 13 => ⟨S16x1x64x64, .f32⟩
  | 14 => ⟨S16x1x64x64, .f32⟩
  | 15 => ⟨S16x1x64x64, .i1⟩
  | 16 => ⟨S16x1x64x64, .f32⟩
  | 17 => ⟨S16x1x64x64, .f32⟩
  | 18 => ⟨S16x1x64x64, .f32⟩
  | 19 => ⟨S16x1x64x64, .f32⟩
  | 20 => ⟨S16x1x64x64, .f32⟩
  | 21 => ⟨S16x1x64x64, .f32⟩
  | 22 => ⟨S16x1x64x64, .f32⟩
  | 23 => ⟨S16x1x64x64, .f32⟩
  | 24 => ⟨S16x1x64x64, .f32⟩
  | 25 => ⟨S16x1x64x64, .f32⟩
  | 26 => ⟨S16x1x64x64, .f32⟩
  | 27 => ⟨S16x1x64x64, .f32⟩
  | 28 => ⟨S16x64x64, .f32⟩
  | 29 => ⟨S_, .f32⟩
  | 30 => ⟨S16x1x64x64, .f32⟩
  | 31 => ⟨S16x1x64x64, .i1⟩
  | 32 => ⟨S16x64x64, .i1⟩
  | 33 => ⟨S512, .f32⟩
  | 34 => ⟨S512, .f32⟩
  | 35 => ⟨S512x512, .f32⟩
  | 36 => ⟨S512x512, .f32⟩
  | 37 => ⟨S1x512x512, .f32⟩
  | 38 => ⟨S1x512x512, .f32⟩
  | 39 => ⟨S2x512x512, .f32⟩
  | 40 => ⟨S1x2x512x512, .f32⟩
  | 41 => ⟨S16x2x512x512, .f32⟩
  | 42 => ⟨S16x2x64x8x64x8, .f32⟩
  | 43 => ⟨S16x2x64x64x8x8, .f32⟩
  | 44 => ⟨S16x2x64x64x64, .f32⟩
  | 45 => ⟨S16x2x64x64, .i32⟩
  | 46 => ⟨S16x2x64x64x1, .i32⟩
  | 47 => ⟨S_, .i32⟩
  | 48 => ⟨S16x2x64x64x1, .i32⟩
  | 49 => ⟨S16x2x64x64x1, .i1⟩
  | 50 => ⟨S_, .i32⟩
  | 51 => ⟨S16x2x64x64x1, .i32⟩
  | 52 => ⟨S16x2x64x64x1, .i32⟩
  | 53 => ⟨S16x2x64x64x1, .i32⟩
  | 54 => ⟨S16x2x64x64x1x1, .i32⟩
  | 55 => ⟨S1, .i32⟩
  | 56 => ⟨S_, .i32⟩
  | 57 => ⟨S16x2x64x64x1x1, .i32⟩
  | 58 => ⟨S16x2x64x64x1x1, .i1⟩
  | 59 => ⟨S1x1x1x1x1x1, .i32⟩
  | 60 => ⟨S16x2x64x64x1x1, .i32⟩
  | 61 => ⟨S16x2x64x64x1x1, .i1⟩
  | 62 => ⟨S16x2x64x64x1x1, .i1⟩
  | 63 => ⟨S_, .i1⟩
  | 64 => ⟨S16x2x64x64x1, .i1⟩
  | 65 => ⟨S16x2x64x64x1, .f32⟩
  | 66 => ⟨S_, .f32⟩
  | 67 => ⟨S16x2x64x64x1, .f32⟩
  | 68 => ⟨S16x2x64x64x1, .f32⟩
  | 69 => ⟨S16x2x64x64, .f32⟩
  | 70 => ⟨S16x64x64x2, .f32⟩
  | 71 => ⟨S16x64x64x2, .f32⟩
  | _ => ⟨S16x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_3 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_9 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_10 : Ref sig .tc := ⟨.hbm, 45, rfl⟩
abbrev main_v33 : Ref sig .tc := ⟨.hbm, 46, rfl⟩
abbrev main_v34 : Ref sig .tc := ⟨.hbm, 47, rfl⟩
abbrev main_c_11 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_12 : Ref sig .tc := ⟨.hbm, 54, rfl⟩
abbrev main_v40 : Ref sig .tc := ⟨.hbm, 55, rfl⟩
abbrev main_v41 : Ref sig .tc := ⟨.hbm, 56, rfl⟩
abbrev main_c_13 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_14 : Ref sig .tc := ⟨.hbm, 63, rfl⟩
abbrev main_v47 : Ref sig .tc := ⟨.hbm, 64, rfl⟩
abbrev main_v48 : Ref sig .tc := ⟨.hbm, 65, rfl⟩
abbrev main_c_15 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_16 : Ref sig .tc := ⟨.hbm, 72, rfl⟩
abbrev main_v54 : Ref sig .tc := ⟨.hbm, 73, rfl⟩
abbrev main_v55 : Ref sig .tc := ⟨.hbm, 74, rfl⟩
abbrev main_c_17 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_18 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_19 : Ref sig .tc := ⟨.hbm, 88, rfl⟩
abbrev main_v67 : Ref sig .tc := ⟨.hbm, 89, rfl⟩
abbrev main_v68 : Ref sig .tc := ⟨.hbm, 90, rfl⟩
abbrev main_c_20 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_21 : Ref sig .tc := ⟨.hbm, 97, rfl⟩
abbrev main_v74 : Ref sig .tc := ⟨.hbm, 98, rfl⟩
abbrev main_v75 : Ref sig .tc := ⟨.hbm, 99, rfl⟩
abbrev main_c_22 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_23 : Ref sig .tc := ⟨.hbm, 106, rfl⟩
abbrev main_v81 : Ref sig .tc := ⟨.hbm, 107, rfl⟩
abbrev main_v82 : Ref sig .tc := ⟨.hbm, 108, rfl⟩
abbrev main_c_24 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_25 : Ref sig .tc := ⟨.hbm, 115, rfl⟩
abbrev main_v88 : Ref sig .tc := ⟨.hbm, 116, rfl⟩
abbrev main_v89 : Ref sig .tc := ⟨.hbm, 117, rfl⟩
abbrev main_c_26 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_27 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_28 : Ref sig .tc := ⟨.hbm, 131, rfl⟩
abbrev main_v101 : Ref sig .tc := ⟨.hbm, 132, rfl⟩
abbrev main_v102 : Ref sig .tc := ⟨.hbm, 133, rfl⟩
abbrev main_c_29 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_30 : Ref sig .tc := ⟨.hbm, 140, rfl⟩
abbrev main_v108 : Ref sig .tc := ⟨.hbm, 141, rfl⟩
abbrev main_v109 : Ref sig .tc := ⟨.hbm, 142, rfl⟩
abbrev main_c_31 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_c_32 : Ref sig .tc := ⟨.hbm, 149, rfl⟩
abbrev main_v115 : Ref sig .tc := ⟨.hbm, 150, rfl⟩
abbrev main_v116 : Ref sig .tc := ⟨.hbm, 151, rfl⟩
abbrev main_c_33 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_34 : Ref sig .tc := ⟨.hbm, 158, rfl⟩
abbrev main_v122 : Ref sig .tc := ⟨.hbm, 159, rfl⟩
abbrev main_v123 : Ref sig .tc := ⟨.hbm, 160, rfl⟩
abbrev main_c_35 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_36 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_37 : Ref sig .tc := ⟨.hbm, 174, rfl⟩
abbrev main_v135 : Ref sig .tc := ⟨.hbm, 175, rfl⟩
abbrev main_v136 : Ref sig .tc := ⟨.hbm, 176, rfl⟩
abbrev main_c_38 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_c_39 : Ref sig .tc := ⟨.hbm, 183, rfl⟩
abbrev main_v142 : Ref sig .tc := ⟨.hbm, 184, rfl⟩
abbrev main_v143 : Ref sig .tc := ⟨.hbm, 185, rfl⟩
abbrev main_c_40 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_c_41 : Ref sig .tc := ⟨.hbm, 192, rfl⟩
abbrev main_v149 : Ref sig .tc := ⟨.hbm, 193, rfl⟩
abbrev main_v150 : Ref sig .tc := ⟨.hbm, 194, rfl⟩
abbrev main_c_42 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_c_43 : Ref sig .tc := ⟨.hbm, 201, rfl⟩
abbrev main_v156 : Ref sig .tc := ⟨.hbm, 202, rfl⟩
abbrev main_v157 : Ref sig .tc := ⟨.hbm, 203, rfl⟩
abbrev main_c_44 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_c_45 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_c_46 : Ref sig .tc := ⟨.hbm, 217, rfl⟩
abbrev main_v169 : Ref sig .tc := ⟨.hbm, 218, rfl⟩
abbrev main_v170 : Ref sig .tc := ⟨.hbm, 219, rfl⟩
abbrev main_c_47 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_c_48 : Ref sig .tc := ⟨.hbm, 226, rfl⟩
abbrev main_v176 : Ref sig .tc := ⟨.hbm, 227, rfl⟩
abbrev main_v177 : Ref sig .tc := ⟨.hbm, 228, rfl⟩
abbrev main_c_49 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_c_50 : Ref sig .tc := ⟨.hbm, 235, rfl⟩
abbrev main_v183 : Ref sig .tc := ⟨.hbm, 236, rfl⟩
abbrev main_v184 : Ref sig .tc := ⟨.hbm, 237, rfl⟩
abbrev main_c_51 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_c_52 : Ref sig .tc := ⟨.hbm, 244, rfl⟩
abbrev main_v190 : Ref sig .tc := ⟨.hbm, 245, rfl⟩
abbrev main_v191 : Ref sig .tc := ⟨.hbm, 246, rfl⟩
abbrev main_c_53 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_c_54 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_c_55 : Ref sig .tc := ⟨.hbm, 260, rfl⟩
abbrev main_v203 : Ref sig .tc := ⟨.hbm, 261, rfl⟩
abbrev main_v204 : Ref sig .tc := ⟨.hbm, 262, rfl⟩
abbrev main_c_56 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_cst : Ref sig .tc := ⟨.hbm, 267, rfl⟩
abbrev main_v208 : Ref sig .tc := ⟨.hbm, 268, rfl⟩
abbrev main_v209 : Ref sig .tc := ⟨.hbm, 269, rfl⟩
abbrev main_cst_57 : Ref sig .tc := ⟨.hbm, 270, rfl⟩
abbrev main_v210 : Ref sig .tc := ⟨.hbm, 271, rfl⟩
abbrev main_v211 : Ref sig .tc := ⟨.hbm, 272, rfl⟩
abbrev main_cst_58 : Ref sig .tc := ⟨.hbm, 273, rfl⟩
abbrev main_v212 : Ref sig .tc := ⟨.hbm, 274, rfl⟩
abbrev main_v213 : Ref sig .tc := ⟨.hbm, 275, rfl⟩
abbrev main_cst_59 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_values : Ref sig .tc := ⟨.hbm, 284, rfl⟩
abbrev main_indices : Ref sig .tc := ⟨.hbm, 285, rfl⟩
abbrev main_v221 : Ref sig .tc := ⟨.hbm, 286, rfl⟩
abbrev main_call0_cst : Ref sig .tc := ⟨.hbm, 287, rfl⟩
abbrev main_call0_v0 : Ref sig .tc := ⟨.hbm, 288, rfl⟩
abbrev main_call0_cst_0 : Ref sig .tc := ⟨.hbm, 289, rfl⟩
abbrev main_call0_v1 : Ref sig .tc := ⟨.hbm, 290, rfl⟩
abbrev main_call0_v2 : Ref sig .tc := ⟨.hbm, 291, rfl⟩
abbrev main_call0_v3 : Ref sig .tc := ⟨.hbm, 292, rfl⟩
abbrev main_call0_v4 : Ref sig .tc := ⟨.hbm, 293, rfl⟩
abbrev main_call0_v5 : Ref sig .tc := ⟨.hbm, 294, rfl⟩
abbrev main_call0_v6 : Ref sig .tc := ⟨.hbm, 295, rfl⟩
abbrev main_call0_cst_1 : Ref sig .tc := ⟨.hbm, 296, rfl⟩
abbrev main_call0_v7 : Ref sig .tc := ⟨.hbm, 297, rfl⟩
abbrev main_call0_v8 : Ref sig .tc := ⟨.hbm, 298, rfl⟩
abbrev main_call0_v9 : Ref sig .tc := ⟨.hbm, 299, rfl⟩
abbrev main_call0_v10 : Ref sig .tc := ⟨.hbm, 300, rfl⟩
abbrev main_v222 : Ref sig .tc := ⟨.hbm, 301, rfl⟩
abbrev main_v223 : Ref sig .tc := ⟨.hbm, 302, rfl⟩
abbrev main_call1_c : Ref sig .tc := ⟨.hbm, 303, rfl⟩
abbrev main_call1_v0 : Ref sig .tc := ⟨.hbm, 304, rfl⟩
abbrev main_call1_v1 : Ref sig .tc := ⟨.hbm, 305, rfl⟩
abbrev main_call1_c_0 : Ref sig .tc := ⟨.hbm, 306, rfl⟩
abbrev main_call1_v2 : Ref sig .tc := ⟨.hbm, 307, rfl⟩
abbrev main_call1_v3 : Ref sig .tc := ⟨.hbm, 308, rfl⟩
abbrev main_call1_v4 : Ref sig .tc := ⟨.hbm, 309, rfl⟩
abbrev main_call1_v5 : Ref sig .tc := ⟨.hbm, 310, rfl⟩
abbrev main_call1_c_1 : Ref sig .tc := ⟨.hbm, 311, rfl⟩
abbrev main_call1_c_2 : Ref sig .tc := ⟨.hbm, 312, rfl⟩
abbrev main_call1_v6 : Ref sig .tc := ⟨.hbm, 313, rfl⟩
abbrev main_call1_v7 : Ref sig .tc := ⟨.hbm, 314, rfl⟩
abbrev main_call1_v8 : Ref sig .tc := ⟨.hbm, 315, rfl⟩
abbrev main_call1_v9 : Ref sig .tc := ⟨.hbm, 316, rfl⟩
abbrev main_call1_v10 : Ref sig .tc := ⟨.hbm, 317, rfl⟩
abbrev main_call1_v11 : Ref sig .tc := ⟨.hbm, 318, rfl⟩
abbrev main_call1_c_3 : Ref sig .tc := ⟨.hbm, 319, rfl⟩
abbrev main_call1_v12 : Ref sig .tc := ⟨.hbm, 320, rfl⟩
abbrev main_call1_v13 : Ref sig .tc := ⟨.hbm, 321, rfl⟩
abbrev main_call1_v14 : Ref sig .tc := ⟨.hbm, 322, rfl⟩
abbrev main_call1_cst : Ref sig .tc := ⟨.hbm, 323, rfl⟩
abbrev main_call1_v15 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_call2_c : Ref sig .tc := ⟨.hbm, 328, rfl⟩
abbrev main_call2_v0 : Ref sig .tc := ⟨.hbm, 329, rfl⟩
abbrev main_call2_v1 : Ref sig .tc := ⟨.hbm, 330, rfl⟩
abbrev main_call2_c_0 : Ref sig .tc := ⟨.hbm, 331, rfl⟩
abbrev main_call2_v2 : Ref sig .tc := ⟨.hbm, 332, rfl⟩
abbrev main_call2_v3 : Ref sig .tc := ⟨.hbm, 333, rfl⟩
abbrev main_call2_v4 : Ref sig .tc := ⟨.hbm, 334, rfl⟩
abbrev main_call2_v5 : Ref sig .tc := ⟨.hbm, 335, rfl⟩
abbrev main_call2_c_1 : Ref sig .tc := ⟨.hbm, 336, rfl⟩
abbrev main_call2_c_2 : Ref sig .tc := ⟨.hbm, 337, rfl⟩
abbrev main_call2_v6 : Ref sig .tc := ⟨.hbm, 338, rfl⟩
abbrev main_call2_v7 : Ref sig .tc := ⟨.hbm, 339, rfl⟩
abbrev main_call2_v8 : Ref sig .tc := ⟨.hbm, 340, rfl⟩
abbrev main_call2_v9 : Ref sig .tc := ⟨.hbm, 341, rfl⟩
abbrev main_call2_v10 : Ref sig .tc := ⟨.hbm, 342, rfl⟩
abbrev main_call2_v11 : Ref sig .tc := ⟨.hbm, 343, rfl⟩
abbrev main_call2_c_3 : Ref sig .tc := ⟨.hbm, 344, rfl⟩
abbrev main_call2_v12 : Ref sig .tc := ⟨.hbm, 345, rfl⟩
abbrev main_call2_v13 : Ref sig .tc := ⟨.hbm, 346, rfl⟩
abbrev main_call2_v14 : Ref sig .tc := ⟨.hbm, 347, rfl⟩
abbrev main_call2_cst : Ref sig .tc := ⟨.hbm, 348, rfl⟩
abbrev main_call2_v15 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_cst_60 : Ref sig .tc := ⟨.hbm, 354, rfl⟩
abbrev main_v231 : Ref sig .tc := ⟨.hbm, 355, rfl⟩
abbrev main_v232 : Ref sig .tc := ⟨.hbm, 356, rfl⟩
abbrev main_cst_61 : Ref sig .tc := ⟨.hbm, 357, rfl⟩
abbrev main_v233 : Ref sig .tc := ⟨.hbm, 358, rfl⟩
abbrev main_v234 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_c_62 : Ref sig .tc := ⟨.hbm, 364, rfl⟩
abbrev main_v239 : Ref sig .tc := ⟨.hbm, 365, rfl⟩
abbrev main_v240 : Ref sig .tc := ⟨.hbm, 366, rfl⟩
abbrev main_c_63 : Ref sig .tc := ⟨.hbm, 367, rfl⟩
abbrev main_v241 : Ref sig .tc := ⟨.hbm, 368, rfl⟩
abbrev main_v242 : Ref sig .tc := ⟨.hbm, 369, rfl⟩
abbrev main_c_64 : Ref sig .tc := ⟨.hbm, 370, rfl⟩
abbrev main_v243 : Ref sig .tc := ⟨.hbm, 371, rfl⟩
abbrev main_v244 : Ref sig .tc := ⟨.hbm, 372, rfl⟩
abbrev main_c_65 : Ref sig .tc := ⟨.hbm, 373, rfl⟩
abbrev main_v245 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_c_66 : Ref sig .tc := ⟨.hbm, 379, rfl⟩
abbrev main_v250 : Ref sig .tc := ⟨.hbm, 380, rfl⟩
abbrev main_v251 : Ref sig .tc := ⟨.hbm, 381, rfl⟩
abbrev main_v252 : Ref sig .tc := ⟨.hbm, 382, rfl⟩
abbrev main_v253 : Ref sig .tc := ⟨.hbm, 383, rfl⟩
abbrev main_v254 : Ref sig .tc := ⟨.hbm, 384, rfl⟩
abbrev main_c_67 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_c_68 : Ref sig .tc := ⟨.hbm, 392, rfl⟩
abbrev main_v261 : Ref sig .tc := ⟨.hbm, 393, rfl⟩
abbrev main_v262 : Ref sig .tc := ⟨.hbm, 394, rfl⟩
abbrev main_c_69 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_c_70 : Ref sig .tc := ⟨.hbm, 401, rfl⟩
abbrev main_v268 : Ref sig .tc := ⟨.hbm, 402, rfl⟩
abbrev main_v269 : Ref sig .tc := ⟨.hbm, 403, rfl⟩
abbrev main_c_71 : Ref sig .tc := ⟨.hbm, 404, rfl⟩
abbrev main_v270 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_c_72 : Ref sig .tc := ⟨.hbm, 410, rfl⟩
abbrev main_v275 : Ref sig .tc := ⟨.hbm, 411, rfl⟩
abbrev main_v276 : Ref sig .tc := ⟨.hbm, 412, rfl⟩
abbrev main_c_73 : Ref sig .tc := ⟨.hbm, 413, rfl⟩
abbrev main_v277 : Ref sig .tc := ⟨.hbm, 414, rfl⟩
abbrev main_v278 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_c_74 : Ref sig .tc := ⟨.hbm, 419, rfl⟩
abbrev main_v282 : Ref sig .tc := ⟨.hbm, 420, rfl⟩
abbrev main_v283 : Ref sig .tc := ⟨.hbm, 421, rfl⟩
abbrev main_c_75 : Ref sig .tc := ⟨.hbm, 422, rfl⟩
abbrev main_v284 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_v288 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_c_76 : Ref sig .tc := ⟨.hbm, 431, rfl⟩
abbrev main_v292 : Ref sig .tc := ⟨.hbm, 432, rfl⟩
abbrev main_v293 : Ref sig .tc := ⟨.hbm, 433, rfl⟩
abbrev main_v294 : Ref sig .tc := ⟨.hbm, 434, rfl⟩
abbrev main_c_77 : Ref sig .tc := ⟨.hbm, 435, rfl⟩
abbrev main_v295 : Ref sig .tc := ⟨.hbm, 436, rfl⟩
abbrev main_v296 : Ref sig .tc := ⟨.hbm, 437, rfl⟩
abbrev main_c_78 : Ref sig .tc := ⟨.hbm, 438, rfl⟩
abbrev main_v297 : Ref sig .tc := ⟨.hbm, 439, rfl⟩
abbrev main_v298 : Ref sig .tc := ⟨.hbm, 440, rfl⟩
abbrev main_v299 : Ref sig .tc := ⟨.hbm, 441, rfl⟩
abbrev main_v300 : Ref sig .tc := ⟨.hbm, 442, rfl⟩
abbrev main_v301 : Ref sig .tc := ⟨.hbm, 443, rfl⟩
abbrev main_c_79 : Ref sig .tc := ⟨.hbm, 444, rfl⟩
abbrev main_v302 : Ref sig .tc := ⟨.hbm, 445, rfl⟩
abbrev main_v303 : Ref sig .tc := ⟨.hbm, 446, rfl⟩
abbrev main_c_80 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_v307 : Ref sig .tc := ⟨.hbm, 451, rfl⟩
abbrev main_v308 : Ref sig .tc := ⟨.hbm, 452, rfl⟩
abbrev main_c_81 : Ref sig .tc := ⟨.hbm, 453, rfl⟩
abbrev main_v309 : Ref sig .tc := ⟨.hbm, 454, rfl⟩
abbrev main_v310 : Ref sig .tc := ⟨.hbm, 455, rfl⟩
abbrev main_c_82 : Ref sig .tc := ⟨.hbm, 456, rfl⟩
abbrev main_v311 : Ref sig .tc := ⟨.hbm, 457, rfl⟩
abbrev main_v312 : Ref sig .tc := ⟨.hbm, 458, rfl⟩
abbrev main_v313 : Ref sig .tc := ⟨.hbm, 459, rfl⟩
abbrev main_v314 : Ref sig .tc := ⟨.hbm, 460, rfl⟩
abbrev main_v315 : Ref sig .tc := ⟨.hbm, 461, rfl⟩
abbrev main_c_83 : Ref sig .tc := ⟨.hbm, 462, rfl⟩
abbrev main_v316 : Ref sig .tc := ⟨.hbm, 463, rfl⟩
abbrev main_v317 : Ref sig .tc := ⟨.hbm, 464, rfl⟩
abbrev main_c_84 : Ref sig .tc := ⟨.hbm, 465, rfl⟩
abbrev main_v318 : Ref sig .tc := ⟨.hbm, 466, rfl⟩
abbrev main_v319 : Ref sig .tc := ⟨.hbm, 467, rfl⟩
abbrev main_v320 : Ref sig .tc := ⟨.hbm, 468, rfl⟩
abbrev main_v321 : Ref sig .tc := ⟨.hbm, 469, rfl⟩
abbrev main_v322 : Ref sig .tc := ⟨.hbm, 470, rfl⟩
abbrev main_v323 : Ref sig .tc := ⟨.hbm, 471, rfl⟩
abbrev main_v324 : Ref sig .tc := ⟨.hbm, 472, rfl⟩
abbrev main_v325 : Ref sig .tc := ⟨.hbm, 473, rfl⟩
abbrev main_c_85 : Ref sig .tc := ⟨.hbm, 474, rfl⟩
abbrev main_v326 : Ref sig .tc := ⟨.hbm, 475, rfl⟩
abbrev main_v327 : Ref sig .tc := ⟨.hbm, 476, rfl⟩
abbrev main_v328 : Ref sig .tc := ⟨.hbm, 477, rfl⟩
abbrev main_c_86 : Ref sig .tc := ⟨.hbm, 478, rfl⟩
abbrev main_v329 : Ref sig .tc := ⟨.hbm, 479, rfl⟩
abbrev main_v330 : Ref sig .tc := ⟨.hbm, 480, rfl⟩
abbrev main_c_87 : Ref sig .tc := ⟨.hbm, 481, rfl⟩
abbrev main_v331 : Ref sig .tc := ⟨.hbm, 482, rfl⟩
abbrev main_v332 : Ref sig .tc := ⟨.hbm, 483, rfl⟩
abbrev main_v333 : Ref sig .tc := ⟨.hbm, 484, rfl⟩
abbrev main_v334 : Ref sig .tc := ⟨.hbm, 485, rfl⟩
abbrev main_v335 : Ref sig .tc := ⟨.hbm, 486, rfl⟩
abbrev main_c_88 : Ref sig .tc := ⟨.hbm, 487, rfl⟩
abbrev main_v336 : Ref sig .tc := ⟨.hbm, 488, rfl⟩
abbrev main_v337 : Ref sig .tc := ⟨.hbm, 489, rfl⟩
abbrev main_c_89 : Ref sig .tc := ⟨.hbm, 490, rfl⟩
abbrev main_v338 : Ref sig .tc := ⟨.hbm, 491, rfl⟩
abbrev main_v339 : Ref sig .tc := ⟨.hbm, 492, rfl⟩
abbrev main_v340 : Ref sig .tc := ⟨.hbm, 493, rfl⟩
abbrev main_v341 : Ref sig .tc := ⟨.hbm, 494, rfl⟩
abbrev main_v342 : Ref sig .tc := ⟨.hbm, 495, rfl⟩
abbrev main_c_90 : Ref sig .tc := ⟨.hbm, 496, rfl⟩
abbrev main_v343 : Ref sig .tc := ⟨.hbm, 497, rfl⟩
abbrev main_v344 : Ref sig .tc := ⟨.hbm, 498, rfl⟩
abbrev main_c_91 : Ref sig .tc := ⟨.hbm, 499, rfl⟩
abbrev main_v345 : Ref sig .tc := ⟨.hbm, 500, rfl⟩
abbrev main_v346 : Ref sig .tc := ⟨.hbm, 501, rfl⟩
abbrev main_v347 : Ref sig .tc := ⟨.hbm, 502, rfl⟩
abbrev main_v348 : Ref sig .tc := ⟨.hbm, 503, rfl⟩
abbrev main_v349 : Ref sig .tc := ⟨.hbm, 504, rfl⟩
abbrev main_c_92 : Ref sig .tc := ⟨.hbm, 505, rfl⟩
abbrev main_v350 : Ref sig .tc := ⟨.hbm, 506, rfl⟩
abbrev main_v351 : Ref sig .tc := ⟨.hbm, 507, rfl⟩
abbrev main_c_93 : Ref sig .tc := ⟨.hbm, 508, rfl⟩
abbrev main_v352 : Ref sig .tc := ⟨.hbm, 509, rfl⟩
abbrev main_v353 : Ref sig .tc := ⟨.hbm, 510, rfl⟩
abbrev main_v354 : Ref sig .tc := ⟨.hbm, 511, rfl⟩
abbrev main_v355 : Ref sig .tc := ⟨.hbm, 512, rfl⟩
abbrev main_v356 : Ref sig .tc := ⟨.hbm, 513, rfl⟩
abbrev main_v357 : Ref sig .tc := ⟨.hbm, 514, rfl⟩
abbrev main_v358 : Ref sig .tc := ⟨.hbm, 515, rfl⟩
abbrev main_v359 : Ref sig .tc := ⟨.hbm, 516, rfl⟩
abbrev main_c_94 : Ref sig .tc := ⟨.hbm, 517, rfl⟩
abbrev main_v360 : Ref sig .tc := ⟨.hbm, 518, rfl⟩
abbrev main_v361 : Ref sig .tc := ⟨.hbm, 519, rfl⟩
abbrev main_v362 : Ref sig .tc := ⟨.hbm, 520, rfl⟩
abbrev main_c_95 : Ref sig .tc := ⟨.hbm, 521, rfl⟩
abbrev main_v363 : Ref sig .tc := ⟨.hbm, 522, rfl⟩
abbrev main_v364 : Ref sig .tc := ⟨.hbm, 523, rfl⟩
abbrev main_c_96 : Ref sig .tc := ⟨.hbm, 524, rfl⟩
abbrev main_v365 : Ref sig .tc := ⟨.hbm, 525, rfl⟩
abbrev main_v366 : Ref sig .tc := ⟨.hbm, 526, rfl⟩
abbrev main_v367 : Ref sig .tc := ⟨.hbm, 527, rfl⟩
abbrev main_v368 : Ref sig .tc := ⟨.hbm, 528, rfl⟩
abbrev main_v369 : Ref sig .tc := ⟨.hbm, 529, rfl⟩
abbrev main_c_97 : Ref sig .tc := ⟨.hbm, 530, rfl⟩
abbrev main_v370 : Ref sig .tc := ⟨.hbm, 531, rfl⟩
abbrev main_v371 : Ref sig .tc := ⟨.hbm, 532, rfl⟩
abbrev main_c_98 : Ref sig .tc := ⟨.hbm, 533, rfl⟩
abbrev main_v372 : Ref sig .tc := ⟨.hbm, 534, rfl⟩
abbrev main_v373 : Ref sig .tc := ⟨.hbm, 535, rfl⟩
abbrev main_v374 : Ref sig .tc := ⟨.hbm, 536, rfl⟩
abbrev main_v375 : Ref sig .tc := ⟨.hbm, 537, rfl⟩
abbrev main_v376 : Ref sig .tc := ⟨.hbm, 538, rfl⟩
abbrev main_c_99 : Ref sig .tc := ⟨.hbm, 539, rfl⟩
abbrev main_v377 : Ref sig .tc := ⟨.hbm, 540, rfl⟩
abbrev main_v378 : Ref sig .tc := ⟨.hbm, 541, rfl⟩
abbrev main_c_100 : Ref sig .tc := ⟨.hbm, 542, rfl⟩
abbrev main_v379 : Ref sig .tc := ⟨.hbm, 543, rfl⟩
abbrev main_v380 : Ref sig .tc := ⟨.hbm, 544, rfl⟩
abbrev main_v381 : Ref sig .tc := ⟨.hbm, 545, rfl⟩
abbrev main_v382 : Ref sig .tc := ⟨.hbm, 546, rfl⟩
abbrev main_v383 : Ref sig .tc := ⟨.hbm, 547, rfl⟩
abbrev main_c_101 : Ref sig .tc := ⟨.hbm, 548, rfl⟩
abbrev main_v384 : Ref sig .tc := ⟨.hbm, 549, rfl⟩
abbrev main_v385 : Ref sig .tc := ⟨.hbm, 550, rfl⟩
abbrev main_c_102 : Ref sig .tc := ⟨.hbm, 551, rfl⟩
abbrev main_v386 : Ref sig .tc := ⟨.hbm, 552, rfl⟩
abbrev main_v387 : Ref sig .tc := ⟨.hbm, 553, rfl⟩
abbrev main_v388 : Ref sig .tc := ⟨.hbm, 554, rfl⟩
abbrev main_v389 : Ref sig .tc := ⟨.hbm, 555, rfl⟩
abbrev main_v390 : Ref sig .tc := ⟨.hbm, 556, rfl⟩
abbrev main_v391 : Ref sig .tc := ⟨.hbm, 557, rfl⟩
abbrev main_v392 : Ref sig .tc := ⟨.hbm, 558, rfl⟩
abbrev main_v393 : Ref sig .tc := ⟨.hbm, 559, rfl⟩
abbrev main_c_103 : Ref sig .tc := ⟨.hbm, 560, rfl⟩
abbrev main_v394 : Ref sig .tc := ⟨.hbm, 561, rfl⟩
abbrev main_v395 : Ref sig .tc := ⟨.hbm, 562, rfl⟩
abbrev main_v396 : Ref sig .tc := ⟨.hbm, 563, rfl⟩
abbrev main_c_104 : Ref sig .tc := ⟨.hbm, 564, rfl⟩
abbrev main_v397 : Ref sig .tc := ⟨.hbm, 565, rfl⟩
abbrev main_v398 : Ref sig .tc := ⟨.hbm, 566, rfl⟩
abbrev main_c_105 : Ref sig .tc := ⟨.hbm, 567, rfl⟩
abbrev main_v399 : Ref sig .tc := ⟨.hbm, 568, rfl⟩
abbrev main_v400 : Ref sig .tc := ⟨.hbm, 569, rfl⟩
abbrev main_v401 : Ref sig .tc := ⟨.hbm, 570, rfl⟩
abbrev main_v402 : Ref sig .tc := ⟨.hbm, 571, rfl⟩
abbrev main_v403 : Ref sig .tc := ⟨.hbm, 572, rfl⟩
abbrev main_c_106 : Ref sig .tc := ⟨.hbm, 573, rfl⟩
abbrev main_v404 : Ref sig .tc := ⟨.hbm, 574, rfl⟩
abbrev main_v405 : Ref sig .tc := ⟨.hbm, 575, rfl⟩
abbrev main_c_107 : Ref sig .tc := ⟨.hbm, 576, rfl⟩
abbrev main_v406 : Ref sig .tc := ⟨.hbm, 577, rfl⟩
abbrev main_v407 : Ref sig .tc := ⟨.hbm, 578, rfl⟩
abbrev main_v408 : Ref sig .tc := ⟨.hbm, 579, rfl⟩
abbrev main_v409 : Ref sig .tc := ⟨.hbm, 580, rfl⟩
abbrev main_v410 : Ref sig .tc := ⟨.hbm, 581, rfl⟩
abbrev main_c_108 : Ref sig .tc := ⟨.hbm, 582, rfl⟩
abbrev main_v411 : Ref sig .tc := ⟨.hbm, 583, rfl⟩
abbrev main_v412 : Ref sig .tc := ⟨.hbm, 584, rfl⟩
abbrev main_c_109 : Ref sig .tc := ⟨.hbm, 585, rfl⟩
abbrev main_v413 : Ref sig .tc := ⟨.hbm, 586, rfl⟩
abbrev main_v414 : Ref sig .tc := ⟨.hbm, 587, rfl⟩
abbrev main_v415 : Ref sig .tc := ⟨.hbm, 588, rfl⟩
abbrev main_v416 : Ref sig .tc := ⟨.hbm, 589, rfl⟩
abbrev main_v417 : Ref sig .tc := ⟨.hbm, 590, rfl⟩
abbrev main_c_110 : Ref sig .tc := ⟨.hbm, 591, rfl⟩
abbrev main_v418 : Ref sig .tc := ⟨.hbm, 592, rfl⟩
abbrev main_v419 : Ref sig .tc := ⟨.hbm, 593, rfl⟩
abbrev main_c_111 : Ref sig .tc := ⟨.hbm, 594, rfl⟩
abbrev main_v420 : Ref sig .tc := ⟨.hbm, 595, rfl⟩
abbrev main_v421 : Ref sig .tc := ⟨.hbm, 596, rfl⟩
abbrev main_v422 : Ref sig .tc := ⟨.hbm, 597, rfl⟩
abbrev main_v423 : Ref sig .tc := ⟨.hbm, 598, rfl⟩
abbrev main_v424 : Ref sig .tc := ⟨.hbm, 599, rfl⟩
abbrev main_v425 : Ref sig .tc := ⟨.hbm, 600, rfl⟩
abbrev main_v426 : Ref sig .tc := ⟨.hbm, 601, rfl⟩
abbrev main_v427 : Ref sig .tc := ⟨.hbm, 602, rfl⟩
abbrev main_c_112 : Ref sig .tc := ⟨.hbm, 603, rfl⟩
abbrev main_v428 : Ref sig .tc := ⟨.hbm, 604, rfl⟩
abbrev main_v429 : Ref sig .tc := ⟨.hbm, 605, rfl⟩
abbrev main_v430 : Ref sig .tc := ⟨.hbm, 606, rfl⟩
abbrev main_c_113 : Ref sig .tc := ⟨.hbm, 607, rfl⟩
abbrev main_v431 : Ref sig .tc := ⟨.hbm, 608, rfl⟩
abbrev main_v432 : Ref sig .tc := ⟨.hbm, 609, rfl⟩
abbrev main_c_114 : Ref sig .tc := ⟨.hbm, 610, rfl⟩
abbrev main_v433 : Ref sig .tc := ⟨.hbm, 611, rfl⟩
abbrev main_v434 : Ref sig .tc := ⟨.hbm, 612, rfl⟩
abbrev main_v435 : Ref sig .tc := ⟨.hbm, 613, rfl⟩
abbrev main_cst_115 : Ref sig .tc := ⟨.hbm, 614, rfl⟩
abbrev main_v436 : Ref sig .tc := ⟨.hbm, 615, rfl⟩
abbrev main_v437 : Ref sig .tc := ⟨.hbm, 616, rfl⟩
abbrev main_cst_116 : Ref sig .tc := ⟨.hbm, 617, rfl⟩
abbrev main_v438 : Ref sig .tc := ⟨.hbm, 618, rfl⟩
abbrev main_v439 : Ref sig .tc := ⟨.hbm, 619, rfl⟩
abbrev main_cst_117 : Ref sig .tc := ⟨.hbm, 620, rfl⟩
abbrev main_v440 : Ref sig .tc := ⟨.hbm, 621, rfl⟩
abbrev main_v441 : Ref sig .tc := ⟨.hbm, 622, rfl⟩
abbrev main_cst_118 : Ref sig .tc := ⟨.hbm, 623, rfl⟩
abbrev main_v442 : Ref sig .tc := ⟨.hbm, 624, rfl⟩
abbrev main_v443 : Ref sig .tc := ⟨.hbm, 625, rfl⟩
abbrev main_v444 : Ref sig .tc := ⟨.hbm, 626, rfl⟩
abbrev main_v445 : Ref sig .tc := ⟨.hbm, 627, rfl⟩
abbrev main_call3_v0 : Ref sig .tc := ⟨.hbm, 628, rfl⟩
abbrev main_call3_call0_cst : Ref sig .tc := ⟨.hbm, 629, rfl⟩
abbrev main_call3_call0_v0 : Ref sig .tc := ⟨.hbm, 630, rfl⟩
abbrev main_call3_call0_v1 : Ref sig .tc := ⟨.hbm, 631, rfl⟩
abbrev main_call3_call0_v2 : Ref sig .tc := ⟨.hbm, 632, rfl⟩
abbrev main_call3_call0_v3 : Ref sig .tc := ⟨.hbm, 633, rfl⟩
abbrev main_call3_call0_v4 : Ref sig .tc := ⟨.hbm, 634, rfl⟩
abbrev main_call3_call0_v5 : Ref sig .tc := ⟨.hbm, 635, rfl⟩
abbrev main_call3_call0_v6 : Ref sig .tc := ⟨.hbm, 636, rfl⟩
abbrev main_call3_call0_v7 : Ref sig .tc := ⟨.hbm, 637, rfl⟩
abbrev main_call3_call0_v8 : Ref sig .tc := ⟨.hbm, 638, rfl⟩
abbrev main_call3_call0_v9 : Ref sig .tc := ⟨.hbm, 639, rfl⟩
abbrev main_call3_call0_v10 : Ref sig .tc := ⟨.hbm, 640, rfl⟩
abbrev main_call3_call0_v11 : Ref sig .tc := ⟨.hbm, 641, rfl⟩
abbrev main_call3_v1 : Ref sig .tc := ⟨.hbm, 642, rfl⟩
abbrev main_v446 : Ref sig .tc := ⟨.hbm, 643, rfl⟩
abbrev main_v447 : Ref sig .tc := ⟨.hbm, 644, rfl⟩
abbrev main_cst_119 : Ref sig .tc := ⟨.hbm, 645, rfl⟩
abbrev main_v448 : Ref sig .tc := ⟨.hbm, 646, rfl⟩
abbrev main_v449 : Ref sig .tc := ⟨.hbm, 647, rfl⟩
abbrev main_v450 : Ref sig .tc := ⟨.hbm, 648, rfl⟩
abbrev main_call4_v0 : Ref sig .tc := ⟨.hbm, 649, rfl⟩
abbrev main_call4_call0_cst : Ref sig .tc := ⟨.hbm, 650, rfl⟩
abbrev main_call4_call0_v0 : Ref sig .tc := ⟨.hbm, 651, rfl⟩
abbrev main_call4_call0_v1 : Ref sig .tc := ⟨.hbm, 652, rfl⟩
abbrev main_call4_call0_v2 : Ref sig .tc := ⟨.hbm, 653, rfl⟩
abbrev main_call4_call0_v3 : Ref sig .tc := ⟨.hbm, 654, rfl⟩
abbrev main_call4_call0_v4 : Ref sig .tc := ⟨.hbm, 655, rfl⟩
abbrev main_call4_call0_v5 : Ref sig .tc := ⟨.hbm, 656, rfl⟩
abbrev main_call4_call0_v6 : Ref sig .tc := ⟨.hbm, 657, rfl⟩
abbrev main_call4_call0_v7 : Ref sig .tc := ⟨.hbm, 658, rfl⟩
abbrev main_call4_call0_v8 : Ref sig .tc := ⟨.hbm, 659, rfl⟩
abbrev main_call4_call0_v9 : Ref sig .tc := ⟨.hbm, 660, rfl⟩
abbrev main_call4_call0_v10 : Ref sig .tc := ⟨.hbm, 661, rfl⟩
abbrev main_call4_call0_v11 : Ref sig .tc := ⟨.hbm, 662, rfl⟩
abbrev main_call4_v1 : Ref sig .tc := ⟨.hbm, 663, rfl⟩
abbrev main_v451 : Ref sig .tc := ⟨.hbm, 664, rfl⟩
abbrev main_v452 : Ref sig .tc := ⟨.hbm, 665, rfl⟩
abbrev main_v453 : Ref sig .tc := ⟨.hbm, 666, rfl⟩
abbrev main_v454 : Ref sig .tc := ⟨.hbm, 667, rfl⟩
abbrev main_v455 : Ref sig .tc := ⟨.hbm, 668, rfl⟩
abbrev main_cst_120 : Ref sig .tc := ⟨.hbm, 669, rfl⟩
abbrev main_v456 : Ref sig .tc := ⟨.hbm, 670, rfl⟩
abbrev main_v457 : Ref sig .tc := ⟨.hbm, 671, rfl⟩
abbrev main_v458 : Ref sig .tc := ⟨.hbm, 672, rfl⟩
abbrev main_v459 : Ref sig .tc := ⟨.hbm, 673, rfl⟩
abbrev main_v460 : Ref sig .tc := ⟨.hbm, 674, rfl⟩
abbrev main_v461 : Ref sig .tc := ⟨.hbm, 675, rfl⟩
abbrev main_v462 : Ref sig .tc := ⟨.hbm, 676, rfl⟩
abbrev main_v463 : Ref sig .tc := ⟨.hbm, 677, rfl⟩
abbrev main_v464 : Ref sig .tc := ⟨.hbm, 678, rfl⟩
abbrev main_v465 : Ref sig .tc := ⟨.hbm, 679, rfl⟩
abbrev main_v466 : Ref sig .tc := ⟨.hbm, 680, rfl⟩
abbrev main_v467 : Ref sig .tc := ⟨.hbm, 681, rfl⟩
abbrev main_v468 : Ref sig .tc := ⟨.hbm, 682, rfl⟩
abbrev main_v469 : Ref sig .tc := ⟨.hbm, 683, rfl⟩
abbrev main_v470 : Ref sig .tc := ⟨.hbm, 684, rfl⟩
abbrev main_v471 : Ref sig .tc := ⟨.hbm, 685, rfl⟩
abbrev main_v472 : Ref sig .tc := ⟨.hbm, 686, rfl⟩
abbrev main_call5_c : Ref sig .tc := ⟨.hbm, 687, rfl⟩
abbrev main_call5_v0 : Ref sig .tc := ⟨.hbm, 688, rfl⟩
abbrev main_call5_v1 : Ref sig .tc := ⟨.hbm, 689, rfl⟩
abbrev main_call5_c_0 : Ref sig .tc := ⟨.hbm, 690, rfl⟩
abbrev main_call5_v2 : Ref sig .tc := ⟨.hbm, 691, rfl⟩
abbrev main_call5_v3 : Ref sig .tc := ⟨.hbm, 692, rfl⟩
abbrev main_call5_v4 : Ref sig .tc := ⟨.hbm, 693, rfl⟩
abbrev main_call5_v5 : Ref sig .tc := ⟨.hbm, 694, rfl⟩
abbrev main_call5_c_1 : Ref sig .tc := ⟨.hbm, 695, rfl⟩
abbrev main_call5_c_2 : Ref sig .tc := ⟨.hbm, 696, rfl⟩
abbrev main_call5_v6 : Ref sig .tc := ⟨.hbm, 697, rfl⟩
abbrev main_call5_v7 : Ref sig .tc := ⟨.hbm, 698, rfl⟩
abbrev main_call5_v8 : Ref sig .tc := ⟨.hbm, 699, rfl⟩
abbrev main_call5_v9 : Ref sig .tc := ⟨.hbm, 700, rfl⟩
abbrev main_call5_v10 : Ref sig .tc := ⟨.hbm, 701, rfl⟩
abbrev main_call5_v11 : Ref sig .tc := ⟨.hbm, 702, rfl⟩
abbrev main_call5_c_3 : Ref sig .tc := ⟨.hbm, 703, rfl⟩
abbrev main_call5_v12 : Ref sig .tc := ⟨.hbm, 704, rfl⟩
abbrev main_call5_v13 : Ref sig .tc := ⟨.hbm, 705, rfl⟩
abbrev main_call5_cst : Ref sig .tc := ⟨.hbm, 706, rfl⟩
abbrev main_call5_v14 : Ref sig .tc := ⟨.hbm, 707, rfl⟩
abbrev main_v473 : Ref sig .tc := ⟨.hbm, 708, rfl⟩
abbrev main_v474 : Ref sig .tc := ⟨.hbm, 709, rfl⟩
abbrev main_v475 : Ref sig .tc := ⟨.hbm, 710, rfl⟩
abbrev main_v476 : Ref sig .tc := ⟨.hbm, 711, rfl⟩

abbrev nD : Nat := 1
abbrev τ : Topo := Topo.v7x

variable {F : FTy → Type} [FloatOps F]
-- ==== Proof.Words.lean ====
module

public import Idealize.ShloMosaic.PureOps

@[expose] public section

noncomputable section

/-! # The random words

    The counter-based generator both programs draw their random words from, stated once on
    32-bit words: twenty rounds in five groups of four, a key word added to each half after
    every group. -/

namespace Cert.Words

open Idealize.ShloMosaic

/-- A 32-bit word. -/
abbrev W := BitVec 32

/-- One round: the halves' sum, and the second half turned left by `l` (right by `r`) xored with that sum. -/
def mix (l r : W) (s : W × W) : W × W := (s.1 + s.2, (s.2 <<< l ||| s.2 >>> r) ^^^ (s.1 + s.2))

/-- The first half after a round. -/
theorem mix_fst (l r : W) (s : W × W) : (mix l r s).1 = s.1 + s.2 := rfl

/-- The second half after a round. -/
theorem mix_snd (l r : W) (s : W × W) : (mix l r s).2 = (s.2 <<< l ||| s.2 >>> r) ^^^ (s.1 + s.2) := rfl

/-- The second half after a round, the sum written first. -/
theorem mix_turn (l r : W) (s : W × W) : (mix l r s).2 = (s.1 + s.2) ^^^ (s.2 <<< l ||| s.2 >>> r) := BitVec.xor_comm _ _

/-- The first three rounds of a group of the first kind. -/
def threeA (s : W × W) : W × W := mix 26#32 6#32 (mix 15#32 17#32 (mix 13#32 19#32 s))

/-- A group of the first kind: rotations 13, 15, 26, 6. -/
def fourA (s : W × W) : W × W := mix 6#32 26#32 (threeA s)

/-- The first three rounds of a group of the second kind. -/
def threeB (s : W × W) : W × W := mix 16#32 16#32 (mix 29#32 3#32 (mix 17#32 15#32 s))

/-- A group of the second kind: rotations 17, 29, 16, 24. -/
def fourB (s : W × W) : W × W := mix 24#32 8#32 (threeB s)

/-- Key words `a` and `b` and the group's number `c` added in after a group. -/
def inject (a b c : W) (s : W × W) : W × W := (s.1 + a, s.2 + b + c)

/-- The first half after the key words are added. -/
theorem inject_fst (a b c : W) (s : W × W) : (inject a b c s).1 = s.1 + a := rfl

/-- The second half after the key words are added. -/
theorem inject_snd (a b c : W) (s : W × W) : (inject a b c s).2 = s.2 + b + c := rfl

/-- The state before the first round, of counter `n` under the key `k0`, `k1`. -/
def start (k0 k1 n : W) : W × W := (k0, n + k1)

/-- The state after the first group, `k2` the key's third word. -/
def after1 (k0 k1 k2 n : W) : W × W := inject k1 k2 1#32 (fourA (start k0 k1 n))

/-- The state after the second group. -/
def after2 (k0 k1 k2 n : W) : W × W := inject k2 k0 2#32 (fourB (after1 k0 k1 k2 n))

/-- The state after the third group. -/
def after3 (k0 k1 k2 n : W) : W × W := inject k0 k1 3#32 (fourA (after2 k0 k1 k2 n))

/-- The state after the fourth group. -/
def after4 (k0 k1 k2 n : W) : W × W := inject k1 k2 4#32 (fourB (after3 k0 k1 k2 n))

/-- The state after the fifth group. -/
def after5 (k0 k1 k2 n : W) : W × W := inject k2 k0 5#32 (fourA (after4 k0 k1 k2 n))

/-- The random word of counter `n`: the two halves xored. -/
def bits (k0 k1 k2 n : W) : W := (after5 k0 k1 k2 n).1 ^^^ (after5 k0 k1 k2 n).2

/-- The random word the choice among a cell's pixels draws at counter `n`. -/
def bits1 (n : W) : W := bits 928981903#32 3453687069#32 3780455752#32 n

/-- The random word the acceptance draws at counter `n`. -/
def bits2 (n : W) : W := bits 4146024105#32 2718843009#32 1321211378#32 n

/-- A left shift by fewer than 32 places is the plain one on either unit. -/
theorem shli_lt (u : ArithUnit) (x y : W) (h : y.toNat < 32) : IntOp.shli u x y = x <<< y := if_pos h

/-- An unsigned right shift by fewer than 32 places is the plain one on either unit. -/
theorem shrui_lt (u : ArithUnit) (x y : W) (h : y.toNat < 32) : IntOp.shrui u x y = x >>> y := if_pos h

/-- A signed right shift by fewer than 32 places is the plain one on either unit. -/
theorem shrsi_lt (u : ArithUnit) (x y : W) (h : y.toNat < 32) : IntOp.shrsi u x y = x.sshiftRight' y := if_pos h

end Cert.Words

end
-- ==== Proof.KWords1.lean ====
module

public import proofs.«01_k».proof.Proof.Words
public import proofs.«01_k».proof.Proof.Gen.KernelIdeal.Frame
public import Idealize.ShloMosaic.PureOps.Ideal

@[expose] public section

set_option maxHeartbeats 1000000

noncomputable section

/-! # The kernel's first random words

    The words the kernel draws for every pixel of a block, read group by group of its rounds. -/

namespace Cert.KWords1

open Idealize.ShloMosaic Cert.KernelIdeal Cert.KernelIdeal.Gen Cert.Words

/-- The counter of the pixel a block's index names, at grid point `i`. -/
def count (i : grid0.Coords) (j : S64x8x512.Idx) : W :=
  (BitVec.ofNat 32 (j 1).val * 512#32 + BitVec.ofNat 32 (j 2).val) * 64#32 + BitVec.ofNat 32 (j 0).val
    + BitVec.ofNat 32 (i 0).val * 262144#32

/-- The counter with the key's second word added. -/
theorem counter (i : grid0.Coords) (j : S64x8x512.Idx) : k0_pay4 i j = count i j + 3453687069#32 := by
  simp only [k0_pay4, addi, muli, broadcast, iota, IntOp.addi, IntOp.muli, Scalar.muli, count, List.foldl,
    Nat.zero_mul, Nat.zero_add]

/-- The second half after three rounds of the first group. -/
theorem three_snd (i : grid0.Coords) (j : S64x8x512.Idx) :
    k0_pay10 i j = (threeA (start 928981903#32 3453687069#32 (count i j))).2 := by
  simp (disch := decide) only [k0_pay5, k0_pay6, k0_pay7, k0_pay8, k0_pay9, k0_pay10, counter, threeA, start, IntOp.addi, IntOp.muli, IntOp.xori, IntOp.ori, addi, muli, xori, ori, shli, shrui, broadcast, shli_lt, shrui_lt, mix_fst, mix_snd, inject_fst, inject_snd]

/-- The sum of the halves after three rounds of the first group. -/
theorem three_sum (i : grid0.Coords) (j : S64x8x512.Idx) :
    k0_pay11 i j = (threeA (start 928981903#32 3453687069#32 (count i j))).1 + (threeA (start 928981903#32 3453687069#32 (count i j))).2 := by
  simp (disch := decide) only [k0_pay5, k0_pay6, k0_pay7, k0_pay8, k0_pay9, k0_pay10, k0_pay11, counter, threeA, start, IntOp.addi, IntOp.muli, IntOp.xori, IntOp.ori, addi, muli, xori, ori, shli, shrui, broadcast, shli_lt, shrui_lt, mix_fst, mix_snd, inject_fst, inject_snd]

/-- The second half after three rounds of the first group, shifted for the fourth. -/
theorem three_turn (i : grid0.Coords) (j : S64x8x512.Idx) :
    k0_pay12 i j = (threeA (start 928981903#32 3453687069#32 (count i j))).2 <<< 6#32 := by
  simp (disch := decide) only [k0_pay5, k0_pay6, k0_pay7, k0_pay8, k0_pay9, k0_pay10, k0_pay11, k0_pay12, counter, threeA, start, IntOp.addi, IntOp.muli, IntOp.xori, IntOp.ori, addi, muli, xori, ori, shli, shrui, broadcast, shli_lt, shrui_lt, mix_fst, mix_snd, inject_fst, inject_snd]

/-- The second half after the second group. -/
theorem second_snd (v37 v38 v40 v41 : IVec S64x8x512 32) (j : S64x8x512.Idx) (s : W × W)
    (h37 : v37 j = s.2) (h38 : v38 j = s.1 + s.2) (h40 : v40 j = s.2 <<< 6#32) (h41 : v41 j = 26#32) :
    k0_pay22 v37 v38 v40 v41 j = (inject 3780455752#32 928981903#32 2#32 (fourB (inject 3453687069#32 3780455752#32 1#32 (mix 6#32 26#32 s)))).2 := by
  simp (disch := decide) only [k0_pay14, k0_pay15, k0_pay16, k0_pay17, k0_pay18, k0_pay19, k0_pay20, k0_pay21, k0_pay22, h37, h38, h40, h41, fourB, threeB, IntOp.addi, IntOp.muli, IntOp.xori, IntOp.ori, addi, muli, xori, ori, shli, shrui, broadcast, shli_lt, shrui_lt, mix_fst, mix_snd, inject_fst, inject_snd]

/-- The sum of the halves after the second group. -/
theorem second_sum (v37 v38 v40 v41 : IVec S64x8x512 32) (j : S64x8x512.Idx) (s : W × W)
    (h37 : v37 j = s.2) (h38 : v38 j = s.1 + s.2) (h40 : v40 j = s.2 <<< 6#32) (h41 : v41 j = 26#32) :
    k0_pay23 v37 v38 v40 v41 j = (inject 3780455752#32 928981903#32 2#32 (fourB (inject 3453687069#32 3780455752#32 1#32 (mix 6#32 26#32 s)))).1 + (inject 3780455752#32 928981903#32 2#32 (fourB (inject 3453687069#32 3780455752#32 1#32 (mix 6#32 26#32 s)))).2 := by
  simp (disch := decide) only [k0_pay14, k0_pay15, k0_pay16, k0_pay17, k0_pay18, k0_pay19, k0_pay20, k0_pay21, k0_pay22, k0_pay23, h37, h38, h40, h41, fourB, threeB, IntOp.addi, IntOp.muli, IntOp.xori, IntOp.ori, addi, muli, xori, ori, shli, shrui, broadcast, shli_lt, shrui_lt, mix_fst, mix_snd, inject_fst, inject_snd]

/-- The first half after two rounds of the fourth group. -/
theorem third_fst (v84 v85 v86 : IVec S64x8x512 32) (j : S64x8x512.Idx) (s : W × W)
    (h84 : v84 j = s.2) (h85 : v85 j = s.1 + s.2) (h86 : v86 j = 13#32) :
    k0_pay34 v84 v85 v86 j = (mix 29#32 3#32 (mix 17#32 15#32 (inject 928981903#32 3453687069#32 3#32 (fourA s)))).1 := by
  simp (disch := decide) only [k0_pay25, k0_pay26, k0_pay27, k0_pay28, k0_pay29, k0_pay30, k0_pay31, k0_pay32, k0_pay33, k0_pay34, h84, h85, h86, fourA, threeA, IntOp.addi, IntOp.muli, IntOp.xori, IntOp.ori, addi, muli, xori, ori, shli, shrui, broadcast, shli_lt, shrui_lt, mix_fst, mix_snd, inject_fst, inject_snd]

/-- The second half after two rounds of the fourth group. -/
theorem third_snd (v84 v85 v86 : IVec S64x8x512 32) (j : S64x8x512.Idx) (s : W × W)
    (h84 : v84 j = s.2) (h85 : v85 j = s.1 + s.2) (h86 : v86 j = 13#32) :
    k0_pay35 v84 v85 v86 j = (mix 29#32 3#32 (mix 17#32 15#32 (inject 928981903#32 3453687069#32 3#32 (fourA s)))).2 := by
  simp (disch := decide) only [k0_pay25, k0_pay26, k0_pay27, k0_pay28, k0_pay29, k0_pay30, k0_pay31, k0_pay32, k0_pay33, k0_pay34, k0_pay35, h84, h85, h86, fourA, threeA, IntOp.addi, IntOp.muli, IntOp.xori, IntOp.ori, addi, muli, xori, ori, shli, shrui, broadcast, shli_lt, shrui_lt, mix_fst, mix_snd, inject_fst, inject_snd]

/-- The second half after three rounds of the fifth group. -/
theorem fourth_snd (v126 v132 : IVec S64x8x512 32) (j : S64x8x512.Idx) (s : W × W)
    (h126 : v126 j = s.1) (h132 : v132 j = s.2) :
    k0_pay45 v126 v132 j = (threeA (inject 3453687069#32 3780455752#32 4#32 (mix 24#32 8#32 (mix 16#32 16#32 s)))).2 := by
  simp (disch := decide) only [k0_pay36, k0_pay37, k0_pay38, k0_pay39, k0_pay40, k0_pay41, k0_pay42, k0_pay43, k0_pay44, k0_pay45, h126, h132, threeA, IntOp.addi, IntOp.muli, IntOp.xori, IntOp.ori, addi, muli, xori, ori, shli, shrui, broadcast, shli_lt, shrui_lt, mix_fst, mix_snd, inject_fst, inject_snd]

/-- The sum of the halves after three rounds of the fifth group. -/
theorem fourth_sum (v126 v132 : IVec S64x8x512 32) (j : S64x8x512.Idx) (s : W × W)
    (h126 : v126 j = s.1) (h132 : v132 j = s.2) :
    k0_pay46 v126 v132 j = (threeA (inject 3453687069#32 3780455752#32 4#32 (mix 24#32 8#32 (mix 16#32 16#32 s)))).1 + (threeA (inject 3453687069#32 3780455752#32 4#32 (mix 24#32 8#32 (mix 16#32 16#32 s)))).2 := by
  simp (disch := decide) only [k0_pay36, k0_pay37, k0_pay38, k0_pay39, k0_pay40, k0_pay41, k0_pay42, k0_pay43, k0_pay44, k0_pay45, k0_pay46, h126, h132, threeA, IntOp.addi, IntOp.muli, IntOp.xori, IntOp.ori, addi, muli, xori, ori, shli, shrui, broadcast, shli_lt, shrui_lt, mix_fst, mix_snd, inject_fst, inject_snd]

/-- The second half after three rounds of the fifth group, shifted for the fourth. -/
theorem fourth_turn (v126 v132 : IVec S64x8x512 32) (j : S64x8x512.Idx) (s : W × W)
    (h126 : v126 j = s.1) (h132 : v132 j = s.2) :
    k0_pay47 v126 v132 j = (threeA (inject 3453687069#32 3780455752#32 4#32 (mix 24#32 8#32 (mix 16#32 16#32 s)))).2 <<< 6#32 := by
  simp (disch := decide) only [k0_pay36, k0_pay37, k0_pay38, k0_pay39, k0_pay40, k0_pay41, k0_pay42, k0_pay43, k0_pay44, k0_pay45, k0_pay46, k0_pay47, h126, h132, threeA, IntOp.addi, IntOp.muli, IntOp.xori, IntOp.ori, addi, muli, xori, ori, shli, shrui, broadcast, shli_lt, shrui_lt, mix_fst, mix_snd, inject_fst, inject_snd]

/-- The state three rounds into the fifth group, and the shift the fourth round starts with. -/
theorem late (i : grid0.Coords) (x : Vec Ideal S1x64x8x512 .f32) (j : S64x8x512.Idx) :
    k0_pay117 i x j = (threeA (after4 928981903#32 3453687069#32 3780455752#32 (count i j))).2
    ∧ k0_pay118 i x j = (threeA (after4 928981903#32 3453687069#32 3780455752#32 (count i j))).1
        + (threeA (after4 928981903#32 3453687069#32 3780455752#32 (count i j))).2
    ∧ k0_pay119 i x j = (threeA (after4 928981903#32 3453687069#32 3780455752#32 (count i j))).2 <<< 6#32 := by
  have h112 : k0_pay112 i x j = (after2 928981903#32 3453687069#32 3780455752#32 (count i j)).2 :=
    second_snd _ _ _ _ j _ (three_snd i j) (three_sum i j) (three_turn i j) rfl
  have h113 : k0_pay113 i x j = (after2 928981903#32 3453687069#32 3780455752#32 (count i j)).1
      + (after2 928981903#32 3453687069#32 3780455752#32 (count i j)).2 :=
    second_sum _ _ _ _ j _ (three_snd i j) (three_sum i j) (three_turn i j) rfl
  have h115 := third_fst _ _ (k0_pay114 i x) j _ h112 h113 rfl
  have h116 := third_snd _ _ (k0_pay114 i x) j _ h112 h113 rfl
  exact ⟨fourth_snd _ _ j _ h115 h116, fourth_sum _ _ j _ h115 h116, fourth_turn _ _ j _ h115 h116⟩

end Cert.KWords1

end
-- ==== Proof.FirstMax.lean ====
module

public import Idealize.ShloMosaic.PureOps
public import Idealize.ShloMosaic.PureOps.Ideal
public import Mathlib.Data.Finset.Fold
public import Mathlib.Data.Fintype.Lattice

@[expose] public section

noncomputable section

/-! # The first greatest entry

    Both programs pick, of sixty-four scores, the first of the greatest: one by the least position
    whose score equals the maximum, the other by a stable sort, greatest first. Here the position is
    named once, and each way of finding it is shown to find it. -/

namespace Cert.FirstMax

open Idealize.ShloMosaic

/-- `k` is the first position of the greatest entry of `x`. -/
def IsFirst {n : ℕ} (x : Fin n → EReal) (k : Fin n) : Prop := (∀ l, x l ≤ x k) ∧ ∀ l, l < k → x l < x k

/-- There is at most one such position. -/
theorem IsFirst.unique {n : ℕ} {x : Fin n → EReal} {k k' : Fin n} (h : IsFirst x k) (h' : IsFirst x k') : k = k' := by
  rcases lt_trichotomy k k' with hlt | heq | hgt
  · exact absurd (h'.2 k hlt) (not_lt.mpr (h.1 k'))
  · exact heq
  · exact absurd (h.2 k' hgt) (not_lt.mpr (h'.1 k))

/-- A stable sort of increasing positions, greatest entry first, starts with the first greatest. -/
theorem sort_head {n : ℕ} (x : Fin n → EReal) (before : Fin n → Fin n → Bool)
    (hb : ∀ k k', before k k' = decide (x k' < x k)) (l : List (Fin n)) (hl : l.Pairwise (· < ·)) (hne : l ≠ []) :
    ∃ h t, stableSort before l = h :: t ∧ h ∈ l ∧ (∀ p ∈ l, x p ≤ x h) ∧ ∀ p ∈ l, p < h → x p < x h := by
  induction l with
  | nil => exact absurd rfl hne
  | cons a l ih =>
    rw [List.pairwise_cons] at hl
    cases l with
    | nil => exact ⟨a, [], rfl, by simp, by simp, by simp⟩
    | cons b l =>
      obtain ⟨h, t, e, hm, hle, hlt⟩ := ih hl.2 (by simp)
      have hah : a < h := hl.1 h hm
      by_cases hc : x a < x h
      · refine ⟨h, insertBefore before a t, ?_, List.mem_cons_of_mem _ hm, ?_, ?_⟩
        · rw [stableSort, e, insertBefore, if_pos (by rw [hb]; exact decide_eq_true hc)]
        · intro p hp
          rcases List.mem_cons.mp hp with rfl | hp
          · exact hc.le
          · exact hle p hp
        · intro p hp hph
          rcases List.mem_cons.mp hp with rfl | hp
          · exact hc
          · exact hlt p hp hph
      · refine ⟨a, h :: t, ?_, by simp, ?_, ?_⟩
        · rw [stableSort, e, insertBefore, if_neg (by rw [hb]; simpa using hc)]
        · intro p hp
          rcases List.mem_cons.mp hp with rfl | hp
          · exact le_rfl
          · exact (hle p hp).trans (not_lt.mp hc)
        · intro p hp hpa
          rcases List.mem_cons.mp hp with rfl | hp
          · exact absurd hpa (lt_irrefl _)
          · exact absurd (hl.1 p hp) (not_lt.mpr hpa.le)

/-- The position a stable sort, greatest first, puts at the front is the first greatest. -/
theorem sortedFrom_first {n : ℕ} (x : Fin n → EReal) (before : Fin n → Fin n → Bool)
    (hb : ∀ k k', before k k' = decide (x k' < x k)) (z : Fin n) (hz : z.val = 0) : IsFirst x (sortedFrom before z) := by
  have hne : List.finRange n ≠ [] := by
    intro h
    have := congrArg List.length h
    simp at this
    exact absurd z.isLt (by omega)
  obtain ⟨h, t, e, _, hle, hlt⟩ := sort_head x before hb (List.finRange n) (List.pairwise_lt_finRange n) hne
  have hs : sortedFrom before z = h := by
    have e' : sortPositions n before = h :: t := e
    simp only [sortedFrom, e', List.get_eq_getElem, Fin.val_cast, hz, List.getElem_cons_zero]
  rw [hs]
  exact ⟨fun l => hle l (List.mem_finRange l), fun l => hlt l (List.mem_finRange l)⟩

/-- Sixty-four entries have a first greatest. -/
theorem exists_first (x : Fin 64 → EReal) : ∃ k, IsFirst x k :=
  ⟨_, sortedFrom_first x (fun k k' => decide (x k' < x k)) (fun _ _ => rfl) 0 rfl⟩

/-- The first position of the greatest of sixty-four entries. -/
def choice (x : Fin 64 → EReal) : Fin 64 := Classical.choose (exists_first x)

/-- It is the first greatest. -/
theorem choice_first (x : Fin 64 → EReal) : IsFirst x (choice x) := Classical.choose_spec (exists_first x)

/-- The fold of the maximum from `⊥` is the greatest entry. -/
theorem fold_max (x : Fin 64 → EReal) : Finset.univ.fold max ⊥ x = x (choice x) := by
  apply le_antisymm
  · exact Finset.fold_max_le _ |>.mpr ⟨bot_le, fun l _ => (choice_first x).1 l⟩
  · exact Finset.le_fold_max _ |>.mpr (Or.inr ⟨choice x, Finset.mem_univ _, le_rfl⟩)

/-- A fold of the signed minimum is at most its start and each entry, and is one of them. -/
theorem fold_minsi [Std.Commutative (IntOp.minsi (w := 32))] [Std.Associative (IntOp.minsi (w := 32))]
    (b : BitVec 32) (f : Fin 64 → BitVec 32) (s : Finset (Fin 64)) :
    (∀ k ∈ s, (s.fold IntOp.minsi b f).toInt ≤ (f k).toInt)
    ∧ (s.fold IntOp.minsi b f = b ∨ ∃ k ∈ s, s.fold IntOp.minsi b f = f k) := by
  have hmin : ∀ u v : BitVec 32, (IntOp.minsi u v).toInt ≤ u.toInt ∧ (IntOp.minsi u v).toInt ≤ v.toInt
      ∧ (IntOp.minsi u v = u ∨ IntOp.minsi u v = v) := by
    intro u v
    by_cases h : u.slt v = true
    · have e : IntOp.minsi u v = u := by simp [IntOp.minsi, h]
      have := BitVec.slt_iff_toInt_lt.mp h
      rw [e]; exact ⟨le_rfl, this.le, Or.inl rfl⟩
    · have e : IntOp.minsi u v = v := by simp [IntOp.minsi, h]
      have : ¬ u.toInt < v.toInt := fun h' => h (BitVec.slt_iff_toInt_lt.mpr h')
      rw [e]; exact ⟨by omega, le_rfl, Or.inr rfl⟩
  induction s using Finset.induction_on with
  | empty => simp
  | insert a s ha ih =>
    rw [Finset.fold_insert ha]
    obtain ⟨h1, h2, h3⟩ := hmin (f a) (s.fold IntOp.minsi b f)
    refine ⟨?_, ?_⟩
    · intro k hk
      rcases Finset.mem_insert.mp hk with rfl | hk
      · exact h1
      · exact h2.trans (ih.1 k hk)
    · rcases h3 with h3 | h3
      · exact Or.inr ⟨a, Finset.mem_insert_self _ _, h3⟩
      · rcases ih.2 with h | ⟨k, hk, h⟩
        · exact Or.inl (h3.trans h)
        · exact Or.inr ⟨k, Finset.mem_insert_of_mem hk, h3.trans h⟩

/-- The least position whose entry equals the greatest is the first greatest. -/
theorem fold_position [Std.Commutative (IntOp.minsi (w := 32))] [Std.Associative (IntOp.minsi (w := 32))]
    (x : Fin 64 → EReal) (f : Fin 64 → BitVec 32)
    (hf : ∀ k, f k = if x k = x (choice x) then BitVec.ofNat 32 k.val else 64#32) :
    Finset.univ.fold IntOp.minsi 2147483647#32 f = BitVec.ofNat 32 (choice x).val := by
  have hint : ∀ k : Fin 64, (BitVec.ofNat 32 k.val).toInt = k.val := by decide
  have h64 : (64#32).toInt = 64 := by decide
  obtain ⟨h1, h2⟩ := fold_minsi 2147483647#32 f Finset.univ
  have hc := h1 (choice x) (Finset.mem_univ _)
  rw [hf, if_pos rfl, hint] at hc
  have hlt := (choice x).isLt
  rcases h2 with h2 | ⟨k, _, h2⟩
  · rw [h2] at hc
    have : (2147483647#32).toInt = 2147483647 := by decide
    omega
  · rw [h2]
    rw [h2] at hc
    rw [hf] at hc ⊢
    by_cases hk : x k = x (choice x)
    · rw [if_pos hk, hint] at hc
      rw [if_pos hk]
      have : ¬ k < choice x := fun h => absurd ((choice_first x).2 k h) (by rw [hk]; exact lt_irrefl _)
      have e : k = choice x := by apply Fin.ext; have := not_lt.mp this; have := Fin.le_def.mp this; omega
      rw [e]
    · rw [if_neg hk, h64] at hc
      omega

end Cert.FirstMax

end
-- ==== Proof.Spec.lean ====
module

public import proofs.«01_k».proof.Proof.Words
public import proofs.«01_k».proof.Proof.FirstMax
public import Idealize.ShloMosaic.PureOps.Ideal

@[expose] public section

noncomputable section

/-! # One cell's sample

    What both programs compute of one cell of sixty-four pixels: the pixel drawn, its value, whether it
    is accepted, and the logarithm of the probability of all that. -/

namespace Cert.Spec

open Idealize.ShloMosaic Cert.Words Cert.FirstMax

/-- The least positive normal float, by its bits. -/
def tiny : EReal := Ideal.ofBits .f32 8388608#32

/-- The number in [0, 1) that a random word's top twenty-three bits name. -/
def unit (w : W) : EReal := Ideal.ofBits .f32 (w >>> 9#32 ||| 1065353216#32) - 1

/-- The random word of pixel `l` of cell `c`. -/
def first (c : ℕ) (l : Fin 64) : W := bits1 (BitVec.ofNat 32 (64 * c + l.val))

/-- The random word of cell `c`'s acceptance. -/
def second (c : ℕ) : W := bits2 (BitVec.ofNat 32 c)

/-- A pixel's score: its value and the Gumbel noise of its word. -/
def score (v : EReal) (w : W) : EReal := -Ideal.log (-Ideal.log (unit w + tiny)) + v

/-- The pixel drawn of cell `c` whose pixels are `a`: the first of the greatest score. -/
def pick (a : Fin 64 → EReal) (c : ℕ) : Fin 64 := choice fun l => score (a l) (first c l)

/-- The greatest of a cell's pixels. -/
def top (a : Fin 64 → EReal) : EReal := a (choice a)

/-- The logarithm of pixel `k`'s share under softmax. -/
def logShare (a : Fin 64 → EReal) (k : Fin 64) : EReal :=
  (a k - top a) - Ideal.log (∑ l, Ideal.exp (a l - top a))

/-- Whether the value `s` is accepted at the word `w`. -/
def accept (s : EReal) (w : W) : EReal := if unit w < Ideal.logistic s then 1 else 0

/-- The logarithm of the logistic function, without overflow. -/
def logSigmoid (s : EReal) : EReal := min s 0 - Ideal.log1p (Ideal.exp (-max s (-s)))

/-- The logarithm of the probability of an acceptance or a refusal. -/
def logAccept (s acc : EReal) : EReal := acc * logSigmoid s + (1 - acc) * logSigmoid (-s)

/-- Whether cell `c` accepts its drawn pixel. -/
def accepted (a : Fin 64 → EReal) (c : ℕ) : EReal := accept (a (pick a c)) (second c)

/-- The logarithm of the probability of cell `c`'s sample. -/
def logProb (a : Fin 64 → EReal) (c : ℕ) : EReal :=
  logShare a (pick a c) + logAccept (a (pick a c)) (accepted a c)

/-- The column, in its image, of pixel `k` of the cell at place `c` of the image. -/
def column (c : ℕ) (k : Fin 64) : EReal := (((8 * (c % 64) + k.val % 8 : ℕ) : ℝ) : EReal)

/-- The row, in its image, of pixel `k` of the cell at place `c` of the image. -/
def row (c : ℕ) (k : Fin 64) : EReal := (((8 * (c / 64) + k.val / 8 : ℕ) : ℝ) : EReal)

/-- The number one's bits. -/
theorem ofBits_one : Ideal.ofBits .f32 1065353216#32 = 1 := by
  simp [Ideal.ofBits, Ideal.ieee, -EReal.coe_mul]; norm_num

/-- Minus infinity's bits. -/
theorem ofBits_bot : Ideal.ofBits .f32 4286578688#32 = ⊥ := by
  simp [Ideal.ofBits, Ideal.ieee]

/-- The smallest normal is positive. -/
theorem tiny_nonneg : 0 ≤ tiny := by
  simp [tiny, Ideal.ofBits, Ideal.ieee, -EReal.coe_mul]

/-- A word with exponent bits 127 and sign 0 is a real at least one. -/
theorem ofBits_mantissa (w : W) : ∃ r : ℝ, 0 ≤ r ∧ Ideal.ofBits .f32 (w >>> 9#32 ||| 1065353216#32) = ((1 + r : ℝ) : EReal) := by
  have hs : (w >>> 9#32 ||| 1065353216#32).extractLsb' 31 1 = 0#1 := by
    apply BitVec.eq_of_getLsbD_eq
    intro i hi
    have : i = 0 := by omega
    subst this
    simp [BitVec.getLsbD_extractLsb']
  have he : (w >>> 9#32 ||| 1065353216#32).extractLsb' 23 8 = 127#8 := by
    apply BitVec.eq_of_getLsbD_eq
    intro i hi
    simp only [BitVec.getLsbD_extractLsb', hi, decide_true, Bool.true_and, BitVec.getLsbD_or, BitVec.ushiftRight_eq',
      BitVec.getLsbD_ushiftRight]
    have h0 : w.getLsbD ((9#32).toNat + (23 + i)) = false := BitVec.getLsbD_of_ge _ _ (by simp; omega)
    rw [h0, Bool.false_or]
    interval_cases i <;> rfl
  refine ⟨((w >>> 9#32 ||| 1065353216#32).extractLsb' 0 23).toNat * (2 : ℝ) ^ (-23 : ℤ), by positivity, ?_⟩
  simp only [Ideal.ofBits, Ideal.ieee, Nat.reduceAdd, hs, he]
  generalize (BitVec.extractLsb' 0 23 (w >>> 9#32 ||| 1065353216#32)).toNat = n
  rw [if_neg (by decide), if_neg (by decide)]
  congr 1
  norm_num
  ring

/-- The named number is never negative, and is real. -/
theorem unit_real (w : W) : ∃ r : ℝ, 0 ≤ r ∧ unit w = (r : EReal) := by
  obtain ⟨r, hr, h⟩ := ofBits_mantissa w
  refine ⟨r, hr, ?_⟩
  rw [unit, h, ← EReal.coe_one, ← EReal.coe_sub]
  congr 1
  ring

/-- The number is never negative. -/
theorem unit_nonneg (w : W) : 0 ≤ unit w := by
  obtain ⟨r, hr, h⟩ := unit_real w
  rw [h]
  exact_mod_cast hr

/-- Drawing between the smallest normal and one adds the smallest normal. -/
theorem max_tiny (w : W) : max tiny (unit w * 1 + tiny) = unit w + tiny := by
  rw [mul_one]
  exact max_eq_right (le_add_of_nonneg_left (unit_nonneg w))

/-- Drawing between zero and one leaves the number. -/
theorem max_zero (w : W) : max 0 (unit w * 1 + 0) = unit w := by
  rw [mul_one, add_zero]
  exact max_eq_right (unit_nonneg w)

/-- The kernel's spelling of a score. -/
theorem score_sub (v : EReal) (w : W) : v - Ideal.log (0 - Ideal.log (unit w + tiny)) = score v w := by
  rw [score, sub_eq_add_neg, sub_eq_add_neg, zero_add, add_comm]

/-- A logarithm of one more than an exponential of a non-positive number is real. -/
theorem log1p_exp_real (s : EReal) : ∃ r : ℝ, Ideal.log1p (Ideal.exp (-max s (-s))) = (r : EReal) := by
  induction s with
  | bot => exact ⟨0, by simp [Ideal.log1p, ← EReal.coe_one]⟩
  | top => exact ⟨0, by simp [Ideal.log1p, ← EReal.coe_one]⟩
  | coe s =>
    refine ⟨Real.log (1 + Real.exp (-max s (-s))), ?_⟩
    have h : -max (s : EReal) (-(s : EReal)) = ((-max s (-s) : ℝ) : EReal) := by
      rw [← EReal.coe_neg, ← EReal.coe_strictMono.monotone.map_max, ← EReal.coe_neg]
    rw [h, Ideal.log1p, Ideal.exp_coe, ← EReal.coe_one, ← EReal.coe_add, Ideal.log_coe, if_neg]
    exact not_le.mpr (by positivity)

/-- The softplus of minus a number, negated, is the logarithm of its logistic. -/
theorem neg_softplus (s : EReal) :
    -(max (-s) 0 + Ideal.log1p (Ideal.exp (-max (-s) (- -s)))) = logSigmoid s := by
  obtain ⟨r, hr⟩ := log1p_exp_real s
  rw [logSigmoid, neg_neg, max_comm (-s) s, hr, EReal.neg_add (.inr (EReal.coe_ne_top r)) (.inr (EReal.coe_ne_bot r)),
    EReal.neg_strictAnti.antitone.map_max, neg_neg, neg_zero]

/-- An acceptance, as the kernel converts its comparison. -/
theorem accept_signed (s : EReal) (w : W) :
    ((((BitVec.setWidth 32 (BitVec.ofBool (decide (unit w < Ideal.logistic s)))).toInt : ℝ)) : EReal) = accept s w := by
  by_cases h : unit w < Ideal.logistic s <;> simp [accept, h]

/-- An acceptance, as the reference converts its comparison. -/
theorem accept_unsigned (s : EReal) (w : W) :
    ((((BitVec.ofBool (decide (unit w < Ideal.logistic s))).toNat : ℝ)) : EReal) = accept s w := by
  by_cases h : unit w < Ideal.logistic s <;> simp [accept, h]

/-- A word below half the range, as a signed integer. -/
theorem toInt_small (n : ℕ) (h : n < 2147483648) : (BitVec.ofNat 32 n).toInt = n := by
  rw [BitVec.toInt_eq_toNat_of_lt (by rw [BitVec.toNat_ofNat]; omega), BitVec.toNat_ofNat]
  omega

/-- The column, from the words of the cell's place and the pixel's. -/
theorem column_word (c : ℕ) (k : Fin 64) :
    ((((BitVec.ofNat 32 c &&& 63#32) * 8#32 + (BitVec.ofNat 32 k.val &&& 7#32)).toInt : ℝ) : EReal) = column c k := by
  have hc : BitVec.ofNat 32 c &&& 63#32 = BitVec.ofNat 32 (c % 64) := by
    apply BitVec.eq_of_toNat_eq
    rw [BitVec.toNat_and, BitVec.toNat_ofNat, BitVec.toNat_ofNat, BitVec.toNat_ofNat]
    rw [show 63 % 2 ^ 32 = 2 ^ 6 - 1 from rfl, Nat.and_two_pow_sub_one_eq_mod]
    omega
  have hk : BitVec.ofNat 32 k.val &&& 7#32 = BitVec.ofNat 32 (k.val % 8) := by
    apply BitVec.eq_of_toNat_eq
    rw [BitVec.toNat_and, BitVec.toNat_ofNat, BitVec.toNat_ofNat, BitVec.toNat_ofNat]
    rw [show 7 % 2 ^ 32 = 2 ^ 3 - 1 from rfl, Nat.and_two_pow_sub_one_eq_mod]
    omega
  rw [hc, hk, ← BitVec.ofNat_mul, ← BitVec.ofNat_add, toInt_small _ (by omega), column, Nat.mul_comm]
  norm_cast

/-- A signed right shift of a word below half the range divides. -/
theorem shift_small (n s : ℕ) (hs : s < 32) (h : n < 2147483648) :
    (BitVec.ofNat 32 n).sshiftRight' (BitVec.ofNat 32 s) = BitVec.ofNat 32 (n / 2 ^ s) := by
  have hm : (BitVec.ofNat 32 n).msb = false := by
    rw [BitVec.msb_eq_false_iff_two_mul_lt, BitVec.toNat_ofNat]
    omega
  rw [BitVec.sshiftRight', BitVec.sshiftRight_eq_of_msb_false hm]
  apply BitVec.eq_of_toNat_eq
  rw [BitVec.toNat_ushiftRight, BitVec.toNat_ofNat, BitVec.toNat_ofNat, BitVec.toNat_ofNat, Nat.shiftRight_eq_div_pow,
    Nat.mod_eq_of_lt (a := s) (by omega), Nat.mod_eq_of_lt (a := n) (by omega),
    Nat.mod_eq_of_lt (lt_of_le_of_lt (Nat.div_le_self _ _) (by omega))]

/-- The row, from the words of the cell's place and the pixel's. -/
theorem row_word (c : ℕ) (k : Fin 64) (h : c < 4096) :
    ((((BitVec.ofNat 32 c).sshiftRight' 6#32 * 8#32 + (BitVec.ofNat 32 k.val).sshiftRight' 3#32).toInt : ℝ) : EReal) = row c k := by
  rw [shift_small c 6 (by omega) (by omega), shift_small k.val 3 (by omega) (by omega), ← BitVec.ofNat_mul, ← BitVec.ofNat_add,
    toInt_small _ (by omega), row, Nat.mul_comm]
  norm_cast

end Cert.Spec

end
-- ==== Proof.KScore.lean ====
module

public import proofs.«01_k».proof.Proof.KWords1
public import proofs.«01_k».proof.Proof.Spec
public import Idealize.ShloMosaic.Lib.Pointwise
public import Idealize.ShloMosaic.Lib.Pipeline.ValueKit

@[expose] public section

set_option maxRecDepth 16384

noncomputable section

/-! # The pixel the kernel draws

    The scores of a block's pixels, the position of the first greatest in each cell, and the drawn
    pixel's value. -/

namespace Cert.KScore

open Idealize.ShloMosaic Cert.KernelIdeal Cert.KernelIdeal.Gen Cert.Words Cert.FirstMax

/-- The random words of a block, from the state the last round starts from. -/
def words (v173 v174 v176 v177 : IVec S64x8x512 32) : IVec S64x8x512 32 :=
  xori (addi v174 (broadcast S64x8x512 3780455752#32))
    (addi (addi (xori (ori v176 (shrui v173 v177)) v174) (broadcast S64x8x512 928981903#32)) (broadcast S64x8x512 5#32))

/-- The scores of a block, from its pixels and its words. -/
def scores (v1 : FVec Ideal S64x8x512 .f32) (w : IVec S64x8x512 32) : FVec Ideal S64x8x512 .f32 :=
  subf v1 (log (subf (broadcast S64x8x512 (Scalar.ofBits .f32 0x00000000#32))
    (log (addf (subf (bitcastToFloat .f32 (ori (shrui w (broadcast S64x8x512 9#32)) (broadcast S64x8x512 1065353216#32)))
      (broadcast S64x8x512 (Scalar.ofBits .f32 0x3F800000#32))) (broadcast S64x8x512 (Scalar.ofBits .f32 0x00800000#32))))))

/-- The least position, in each cell, of a score equal to the greatest. -/
def least (sc : FVec Ideal S64x8x512 .f32) (v2 : IVec S64x8x512 32) : IVec S8x512 32 :=
  multiReductionI .minsi [0] S8x512
    (select (cmpf .oeq sc (broadcastTo S64x8x512 (shapeCast S1x8x512
        (multiReduction .maximumf [0] S8x512 sc 0xFF800000#32 reduces_S64x8x512_S8x512 (.inl rfl) rfl)
        shapeCasts_S8x512_S1x8x512) broadcasts_S1x8x512_S64x8x512)) v2 (broadcast S64x8x512 64#32))
    2147483647#32 reduces_S64x8x512_S8x512 rfl

/-- The kernel's drawn position is the least position of its scores. -/
theorem drawn (v1 : FVec Ideal S64x8x512 .f32) (v2 v173 v174 v176 v177 : IVec S64x8x512 32) :
    k0_pay49 v1 v2 v173 v174 v176 v177 = least (scores v1 (words v173 v174 v176 v177)) v2 := by
  rfl

/-- The random word of a block's pixel. -/
theorem words_at (i : grid0.Coords) (x : Vec Ideal S1x64x8x512 .f32) (j : S64x8x512.Idx) :
    words (k0_pay117 i x) (k0_pay118 i x) (k0_pay119 i x) (k0_pay120 i x) j = bits1 (KWords1.count i j) := by
  obtain ⟨h1, h2, h3⟩ := KWords1.late i x j
  have h4 : k0_pay120 i x j = 26#32 := rfl
  simp (disch := decide) only [words, xori, addi, ori, shrui, broadcast, IntOp.xori, IntOp.addi, IntOp.ori, shrui_lt, h1, h2, h3, h4]
  rfl

/-- A pixel's score. -/
theorem scores_at (v1 : FVec Ideal S64x8x512 .f32) (w : IVec S64x8x512 32) (j : S64x8x512.Idx) :
    scores v1 w j = Spec.score (v1 j) (w j) := by
  rw [← Spec.score_sub]
  simp (disch := decide) only [scores, subf, log, addf, bitcastToFloat, ori, shrui, broadcast, IntOp.ori, shrui_lt,
    Ideal.subf_def, Ideal.addf_def, Ideal.log_def, Scalar.ofBits, Ideal.ofBits_def, Ideal.ofBits_zero_f32, Spec.ofBits_one,
    Spec.unit, Spec.tiny]

/-- The least position of the greatest score is the first greatest. -/
theorem least_at (sc : FVec Ideal S64x8x512 .f32) (v2 : IVec S64x8x512 32)
    (h2 : ∀ j, v2 j = BitVec.ofNat 32 (j 0).val) (p : Fin 8) (q : Fin 512) :
    least sc v2 (ix2 p q) = BitVec.ofNat 32 (choice fun l => sc (ix3 l p q)).val := by
  pointwise [least]
  rw [Spec.ofBits_bot, fold_max]
  refine fold_position (fun l => sc (ix3 l p q)) _ fun l => ?_
  rw [h2]
  rfl

end Cert.KScore

end
-- ==== Proof.KWords2.lean ====
module

public import proofs.«01_k».proof.Proof.Words
public import proofs.«01_k».proof.Proof.Gen.KernelIdeal.Frame
public import Idealize.ShloMosaic.PureOps.Ideal

@[expose] public section

set_option maxHeartbeats 1000000

noncomputable section

/-! # The kernel's second random words

    The words the kernel draws for every cell of a block, read group by group of its rounds. -/

namespace Cert.KWords2

open Idealize.ShloMosaic Cert.KernelIdeal Cert.KernelIdeal.Gen Cert.Words

/-- The number, within its image, of the cell an index of the block names. -/
def cell (j : S8x512.Idx) : W := BitVec.ofNat 32 (j 0).val * 512#32 + BitVec.ofNat 32 (j 1).val

/-- The kernel's cell numbers. -/
theorem cell_eq (j : S8x512.Idx) : k0_pay55 j = cell j := by
  simp only [k0_pay55, addi, muli, broadcast, iota, IntOp.addi, IntOp.muli, cell, List.foldl, Nat.zero_mul, Nat.zero_add]

/-- The counter of a cell with the key's second word added. -/
theorem counter (b : W) (j : S8x512.Idx) : k0_pay56 b j = cell j + b * 4096#32 + 2718843009#32 := by
  simp only [k0_pay56, addi, broadcast, IntOp.addi, Scalar.muli, IntOp.muli, cell_eq]

/-- The first half after the first group. -/
theorem first_fst (b : W) (j : S8x512.Idx) :
    k0_pay64 b j = (inject 2718843009#32 1321211378#32 1#32 (fourA (start 4146024105#32 2718843009#32 (cell j + b * 4096#32)))).1 := by
  simp (disch := decide) only [k0_pay57, k0_pay58, k0_pay59, k0_pay60, k0_pay61, k0_pay62, k0_pay63, k0_pay64, counter, fourA, threeA, start, IntOp.addi, IntOp.muli, IntOp.xori, IntOp.ori, addi, muli, xori, ori, shli, shrui, broadcast, shli_lt, shrui_lt, mix_fst, mix_snd, inject_fst, inject_snd]

/-- The second half after the first group, the group's number not yet added. -/
theorem first_snd (b : W) (j : S8x512.Idx) :
    k0_pay65 b j = (fourA (start 4146024105#32 2718843009#32 (cell j + b * 4096#32))).2 + 1321211378#32 := by
  simp (disch := decide) only [k0_pay57, k0_pay58, k0_pay59, k0_pay60, k0_pay61, k0_pay62, k0_pay63, k0_pay65, counter, fourA, threeA, start, IntOp.addi, IntOp.muli, IntOp.xori, IntOp.ori, addi, muli, xori, ori, shli, shrui, broadcast, shli_lt, shrui_lt, mix_fst, mix_snd, inject_fst, inject_snd]

/-- The second half one round into the third group. -/
theorem second_snd (v264 v266 v267 : IVec S8x512 32) (j : S8x512.Idx) (s : W × W)
    (h264 : v264 j = s.1) (h266 : v266 j + 1#32 = s.2) (h267 : v267 j = 1#32) :
    k0_pay77 v264 v266 v267 j = (mix 13#32 19#32 (inject 1321211378#32 4146024105#32 2#32 (fourB s))).2 := by
  simp (disch := decide) only [k0_pay67, k0_pay68, k0_pay69, k0_pay70, k0_pay71, k0_pay72, k0_pay73, k0_pay74, k0_pay75, k0_pay76, k0_pay77, h264, h266, h267, fourB, threeB, IntOp.addi, IntOp.muli, IntOp.xori, IntOp.ori, addi, muli, xori, ori, shli, shrui, broadcast, shli_lt, shrui_lt, mix_fst, mix_snd, inject_fst, inject_snd]

/-- The sum of the halves one round into the third group. -/
theorem second_sum (v264 v266 v267 : IVec S8x512 32) (j : S8x512.Idx) (s : W × W)
    (h264 : v264 j = s.1) (h266 : v266 j + 1#32 = s.2) (h267 : v267 j = 1#32) :
    k0_pay78 v264 v266 v267 j = (mix 13#32 19#32 (inject 1321211378#32 4146024105#32 2#32 (fourB s))).1 + (mix 13#32 19#32 (inject 1321211378#32 4146024105#32 2#32 (fourB s))).2 := by
  simp (disch := decide) only [k0_pay67, k0_pay68, k0_pay69, k0_pay70, k0_pay71, k0_pay72, k0_pay73, k0_pay74, k0_pay75, k0_pay76, k0_pay77, k0_pay78, h264, h266, h267, fourB, threeB, IntOp.addi, IntOp.muli, IntOp.xori, IntOp.ori, addi, muli, xori, ori, shli, shrui, broadcast, shli_lt, shrui_lt, mix_fst, mix_snd, inject_fst, inject_snd]

/-- The second half one round into the third group, shifted for the next. -/
theorem second_turn (v264 v266 v267 : IVec S8x512 32) (j : S8x512.Idx) (s : W × W)
    (h264 : v264 j = s.1) (h266 : v266 j + 1#32 = s.2) (h267 : v267 j = 1#32) :
    k0_pay79 v264 v266 v267 j = (mix 13#32 19#32 (inject 1321211378#32 4146024105#32 2#32 (fourB s))).2 <<< 15#32 := by
  simp (disch := decide) only [k0_pay67, k0_pay68, k0_pay69, k0_pay70, k0_pay71, k0_pay72, k0_pay73, k0_pay74, k0_pay75, k0_pay76, k0_pay77, k0_pay78, k0_pay79, h264, h266, h267, fourB, threeB, IntOp.addi, IntOp.muli, IntOp.xori, IntOp.ori, addi, muli, xori, ori, shli, shrui, broadcast, shli_lt, shrui_lt, mix_fst, mix_snd, inject_fst, inject_snd]

/-- The second half three rounds into the fourth group. -/
theorem third_snd (v309 v310 v312 : IVec S8x512 32) (c : W) (j : S8x512.Idx) (s : W × W)
    (h309 : v309 j = s.2) (h310 : v310 j = s.1 + s.2) (h312 : v312 j = s.2 <<< 15#32) (hc : c = 17#32) :
    k0_pay90 v309 v310 v312 c j = (threeB (inject 4146024105#32 2718843009#32 3#32 (mix 6#32 26#32 (mix 26#32 6#32 (mix 15#32 17#32 s))))).2 := by
  subst hc
  simp (disch := decide) only [k0_pay80, k0_pay81, k0_pay82, k0_pay83, k0_pay84, k0_pay85, k0_pay86, k0_pay87, k0_pay88, k0_pay89, k0_pay90, h309, h310, h312, threeB, IntOp.addi, IntOp.muli, IntOp.xori, IntOp.ori, addi, muli, xori, ori, shli, shrui, broadcast, shli_lt, shrui_lt, mix_fst, mix_snd, inject_fst, inject_snd]

/-- The sum of the halves three rounds into the fourth group. -/
theorem third_sum (v309 v310 v312 : IVec S8x512 32) (c : W) (j : S8x512.Idx) (s : W × W)
    (h309 : v309 j = s.2) (h310 : v310 j = s.1 + s.2) (h312 : v312 j = s.2 <<< 15#32) (hc : c = 17#32) :
    k0_pay91 v309 v310 v312 c j = (threeB (inject 4146024105#32 2718843009#32 3#32 (mix 6#32 26#32 (mix 26#32 6#32 (mix 15#32 17#32 s))))).1 + (threeB (inject 4146024105#32 2718843009#32 3#32 (mix 6#32 26#32 (mix 26#32 6#32 (mix 15#32 17#32 s))))).2 := by
  subst hc
  simp (disch := decide) only [k0_pay80, k0_pay81, k0_pay82, k0_pay83, k0_pay84, k0_pay85, k0_pay86, k0_pay87, k0_pay88, k0_pay89, k0_pay90, k0_pay91, h309, h310, h312, threeB, IntOp.addi, IntOp.muli, IntOp.xori, IntOp.ori, addi, muli, xori, ori, shli, shrui, broadcast, shli_lt, shrui_lt, mix_fst, mix_snd, inject_fst, inject_snd]

/-- The first half after the fifth group. -/
theorem fourth_fst (v357 v358 : IVec S8x512 32) (c : W) (j : S8x512.Idx) (s : W × W)
    (h357 : v357 j = s.2) (h358 : v358 j = s.1 + s.2) (hc : c = 24#32) :
    k0_pay100 v357 v358 c j = (fourA (inject 2718843009#32 1321211378#32 4#32 (mix 24#32 8#32 s))).1 + 1321211378#32 := by
  subst hc
  simp (disch := decide) only [k0_pay92, k0_pay93, k0_pay94, k0_pay95, k0_pay96, k0_pay97, k0_pay98, k0_pay99, k0_pay100, h357, h358, fourA, threeA, IntOp.addi, IntOp.muli, IntOp.xori, IntOp.ori, addi, muli, xori, ori, shli, shrui, broadcast, shli_lt, shrui_lt, mix_fst, mix_snd, inject_fst, inject_snd]

/-- The second half after the fifth group, the group's number not yet added. -/
theorem fourth_snd (v357 v358 : IVec S8x512 32) (c : W) (j : S8x512.Idx) (s : W × W)
    (h357 : v357 j = s.2) (h358 : v358 j = s.1 + s.2) (hc : c = 24#32) :
    k0_pay101 v357 v358 c j = (fourA (inject 2718843009#32 1321211378#32 4#32 (mix 24#32 8#32 s))).2 + 4146024105#32 := by
  subst hc
  simp (disch := decide) only [k0_pay92, k0_pay93, k0_pay94, k0_pay95, k0_pay96, k0_pay97, k0_pay98, k0_pay99, k0_pay101, h357, h358, fourA, threeA, IntOp.addi, IntOp.muli, IntOp.xori, IntOp.ori, addi, muli, xori, ori, shli, shrui, broadcast, shli_lt, shrui_lt, mix_fst, mix_snd, inject_fst, inject_snd]

/-- The word the acceptance of a cell draws. -/
theorem word (i : grid0.Coords) (x : Vec Ideal S1x64x8x512 .f32) (j : S8x512.Idx) :
    k0_pay132 i x j ^^^ (k0_pay133 i x j + k0_pay134 i x j)
      = bits2 (cell j + BitVec.ofNat 32 (i 0).val * 4096#32) := by
  have h124 := first_fst (BitVec.ofNat 32 (i 0).val) j
  have h125 : k0_pay125 i x j + 1#32
      = (after1 4146024105#32 2718843009#32 1321211378#32 (cell j + BitVec.ofNat 32 (i 0).val * 4096#32)).2 :=
    congrArg (· + 1#32) (first_snd (BitVec.ofNat 32 (i 0).val) j)
  have h127 := second_snd (k0_pay124 i x) (k0_pay125 i x) (k0_pay126 i x) j _ h124 h125 rfl
  have h128 := second_sum (k0_pay124 i x) (k0_pay125 i x) (k0_pay126 i x) j _ h124 h125 rfl
  have h129 := second_turn (k0_pay124 i x) (k0_pay125 i x) (k0_pay126 i x) j _ h124 h125 rfl
  have h130 := third_snd (k0_pay127 i x) (k0_pay128 i x) (k0_pay129 i x) 17#32 j _ h127 h128 h129 rfl
  have h131 := third_sum (k0_pay127 i x) (k0_pay128 i x) (k0_pay129 i x) 17#32 j _ h127 h128 h129 rfl
  have h132 : k0_pay132 i x j
      = (after5 4146024105#32 2718843009#32 1321211378#32 (cell j + BitVec.ofNat 32 (i 0).val * 4096#32)).1 :=
    fourth_fst _ _ _ j _ h130 h131 rfl
  have h133 : k0_pay133 i x j + k0_pay134 i x j
      = (after5 4146024105#32 2718843009#32 1321211378#32 (cell j + BitVec.ofNat 32 (i 0).val * 4096#32)).2 :=
    congrArg (· + 5#32) (fourth_snd _ _ _ j _ h130 h131 rfl)
  rw [h132, h133, bits2, bits]

end Cert.KWords2

end
-- ==== Proof.KBlock.lean ====
module

public import proofs.«01_k».proof.Proof.KScore
public import proofs.«01_k».proof.Proof.KWords2

@[expose] public section

set_option maxRecDepth 16384

noncomputable section

/-! # What one block computes

    At a grid point, from the block of pixels it reads: the four blocks it writes, at each cell. -/

namespace Cert.KBlock

open Idealize.ShloMosaic Cert.KernelIdeal Cert.KernelIdeal.Gen Cert.Words Cert.FirstMax

/-- The number of a block's cell among all the cells. -/
def number (i : grid0.Coords) (p : Fin 8) (q : Fin 512) : ℕ := 4096 * (i 0).val + (512 * p.val + q.val)

/-- The pixels of a block's cell. -/
def pixels (x : Vec Ideal S1x64x8x512 .f32) (p : Fin 8) (q : Fin 512) : Fin 64 → EReal := fun l => x (ix4 0 l p q)

/-- The pixel drawn of a block's cell. -/
def pick (i : grid0.Coords) (x : Vec Ideal S1x64x8x512 .f32) (p : Fin 8) (q : Fin 512) : Fin 64 :=
  Spec.pick (pixels x p q) (number i p q)

/-- The counter of a cell's pixel. -/
theorem count_eq (i : grid0.Coords) (l : Fin 64) (p : Fin 8) (q : Fin 512) :
    KWords1.count i (ix3 l p q) = BitVec.ofNat 32 (64 * number i p q + l.val) := by
  have e : 64 * number i p q + l.val = (p.val * 512 + q.val) * 64 + l.val + (i 0).val * 262144 := by
    unfold number; omega
  rw [e, BitVec.ofNat_add, BitVec.ofNat_add, BitVec.ofNat_mul, BitVec.ofNat_add, BitVec.ofNat_mul, BitVec.ofNat_mul]
  rfl

/-- The unit axis dropped of a block. -/
theorem dropped_at (x : Vec Ideal S1x64x8x512 .f32) (l : Fin 64) (p : Fin 8) (q : Fin 512) :
    k0_pay3 x (ix3 l p q) = pixels x p q l := by
  pointwise [k0_pay3]
  rfl

/-- The kernel's selection by position, as a sum over the cell. -/
theorem select_sum (v1 : FVec Ideal S64x8x512 .f32) (v2 v173 v174 v176 v177 : IVec S64x8x512 32) (p : Fin 8) (q : Fin 512) :
    k0_pay50 v1 v2 v173 v174 v176 v177 (ix2 p q)
      = ∑ l, if v2 (ix3 l p q) = k0_pay49 v1 v2 v173 v174 v176 v177 (ix2 p q) then v1 (ix3 l p q) else (0 : EReal) := by
  unfold k0_pay50
  generalize k0_pay49 v1 v2 v173 v174 v176 v177 = v208
  pointwise []
  refine Finset.sum_congr rfl fun l _ => ?_
  by_cases h : v2 (ix3 l p q) = v208 (ix2 p q) <;> simp [IntOp.cmpi, Scalar.select, h, beq_eq_false_iff_ne.2]

/-- The kernel's greatest pixel of a cell. -/
theorem max_fold (v1 : FVec Ideal S64x8x512 .f32) (p : Fin 8) (q : Fin 512) :
    k0_pay51 v1 (ix2 p q) = Spec.top fun l => v1 (ix3 l p q) := by
  pointwise [k0_pay51]
  rw [Spec.ofBits_bot, fold_max]
  rfl

/-- The kernel's logarithm of a cell's sum of exponentials. -/
theorem log_sum (v1 : FVec Ideal S64x8x512 .f32) (p : Fin 8) (q : Fin 512) :
    k0_pay53 v1 (ix2 p q) = Ideal.log (∑ l, Ideal.exp (v1 (ix3 l p q) - Spec.top fun l => v1 (ix3 l p q))) := by
  rw [← max_fold]
  unfold k0_pay53
  generalize k0_pay51 v1 = v215
  pointwise []

/-- The kernel's acceptance. -/
theorem accept_word (v214 : FVec Ideal S8x512 .f32) (v400 v402 v403 : IVec S8x512 32) (j : S8x512.Idx) :
    k0_pay103 v214 v400 v402 v403 j = Spec.accept (v214 j) (v400 j ^^^ (v402 j + v403 j)) := by
  rw [← Spec.accept_signed]
  idx_vars j
  pointwise [k0_pay103]
  simp (disch := decide) only [IntOp.xori, IntOp.addi, IntOp.ori, shrui_lt, Spec.unit]
  rfl

/-- Zero less a number is its negation. -/
theorem zero_sub_eq (s : EReal) : 0 - s = -s := by rw [sub_eq_add_neg, zero_add]

/-- The kernel's logarithm of the sample's probability. -/
theorem prob_sum (v214 v223 : FVec Ideal S8x512 .f32) (v400 v402 v403 : IVec S8x512 32) (z : Fin 1) (p : Fin 8) (q : Fin 512) :
    k0_pay104 v214 v223 v400 v402 v403 (ix3 z p q)
      = v223 (ix2 p q) + Spec.logAccept (v214 (ix2 p q)) (k0_pay103 v214 v400 v402 v403 (ix2 p q)) := by
  unfold k0_pay104
  generalize k0_pay103 v214 v400 v402 v403 = v416
  pointwise []
  simp only [zero_sub_eq]
  rfl

/-- The kernel's column of the drawn pixel. -/
theorem column_word (v208 v228 : IVec S8x512 32) (z : Fin 1) (p : Fin 8) (q : Fin 512) :
    k0_pay1 (F := Ideal) v208 v228 (ix3 z p q)
      = ((((v228 (ix2 p q) &&& 63#32) * 8#32 + (v208 (ix2 p q) &&& 7#32)).toInt : ℝ) : EReal) := by
  pointwise [k0_pay1]
  rfl

/-- The kernel's row of the drawn pixel. -/
theorem row_word (v208 v228 : IVec S8x512 32) (z : Fin 1) (p : Fin 8) (q : Fin 512) :
    k0_pay2 (F := Ideal) v208 v228 (ix3 z p q)
      = ((((v228 (ix2 p q)).sshiftRight' 6#32 * 8#32 + (v208 (ix2 p q)).sshiftRight' 3#32).toInt : ℝ) : EReal) := by
  pointwise [k0_pay2]
  simp (disch := decide) only [shrsi_lt]
  rfl

/-- The acceptance the kernel stores. -/
theorem stored_accept (v214 : FVec Ideal S8x512 .f32) (v400 v402 v403 : IVec S8x512 32) (z : Fin 1) (p : Fin 8) (q : Fin 512) :
    k0_pay105 v214 v400 v402 v403 (ix3 z p q) = k0_pay103 v214 v400 v402 v403 (ix2 p q) := by
  unfold k0_pay105
  generalize k0_pay103 v214 v400 v402 v403 = v416
  pointwise []

/-- The block's pixels, with the unit axis dropped. -/
theorem block_at (i : grid0.Coords) (x : Vec Ideal S1x64x8x512 .f32) (l : Fin 64) (p : Fin 8) (q : Fin 512) :
    k0_pay107 i x (ix3 l p q) = pixels x p q l := by
  unfold k0_pay107
  rw [View.ld_unit_lit _ _ (by decide)]
  exact dropped_at x l p q

/-- A block's score. -/
theorem score_at (i : grid0.Coords) (x : Vec Ideal S1x64x8x512 .f32) (l : Fin 64) (p : Fin 8) (q : Fin 512) :
    KScore.scores (k0_pay107 i x) (KScore.words (k0_pay117 i x) (k0_pay118 i x) (k0_pay119 i x) (k0_pay120 i x)) (ix3 l p q)
      = Spec.score (pixels x p q l) (Spec.first (number i p q) l) := by
  rw [KScore.scores_at, KScore.words_at, block_at, count_eq]
  rfl

/-- The positions inside the cells. -/
theorem lane_at (i : grid0.Coords) (x : Vec Ideal S1x64x8x512 .f32) (j : S64x8x512.Idx) :
    k0_pay106 i x j = BitVec.ofNat 32 (j 0).val := by
  simp only [k0_pay106, iota, List.foldl, Nat.zero_mul, Nat.zero_add]

/-- The drawn position. -/
theorem drawn_at (i : grid0.Coords) (x : Vec Ideal S1x64x8x512 .f32) (p : Fin 8) (q : Fin 512) :
    k0_pay121 i x (ix2 p q) = BitVec.ofNat 32 (pick i x p q).val := by
  unfold k0_pay121
  rw [KScore.drawn, KScore.least_at _ _ (lane_at i x)]
  simp only [score_at]
  rfl

/-- A cell's word. -/
theorem cell_word (p : Fin 8) (q : Fin 512) : KWords2.cell (ix2 p q) = BitVec.ofNat 32 (512 * p.val + q.val) := by
  rw [BitVec.ofNat_add, BitVec.ofNat_mul, BitVec.mul_comm]
  rfl

/-- Words that name positions below sixty-four differ where the positions do. -/
theorem lane_eq (l k : Fin 64) : (BitVec.ofNat 32 l.val = BitVec.ofNat 32 k.val) ↔ l = k := by
  constructor
  · intro h
    have := congrArg BitVec.toNat h
    simp only [BitVec.toNat_ofNat] at this
    omega
  · rintro rfl; rfl

/-- The drawn pixel's value: the sum over the cell of the value at the drawn position and zero elsewhere. -/
theorem value_at (i : grid0.Coords) (x : Vec Ideal S1x64x8x512 .f32) (p : Fin 8) (q : Fin 512) :
    k0_pay122 i x (ix2 p q) = pixels x p q (pick i x p q) := by
  have hd := drawn_at i x p q
  unfold k0_pay121 at hd
  unfold k0_pay122
  rw [select_sum, hd, Finset.sum_eq_single (pick i x p q)]
  · rw [lane_at, block_at]
    exact if_pos rfl
  · intro l _ hl
    rw [lane_at]
    exact if_neg fun h => hl ((lane_eq _ _).1 h)
  · intro h
    exact absurd (Finset.mem_univ _) h

/-- The greatest pixel of a cell. -/
theorem top_at (i : grid0.Coords) (x : Vec Ideal S1x64x8x512 .f32) (p : Fin 8) (q : Fin 512) :
    k0_pay51 (k0_pay107 i x) (ix2 p q) = Spec.top (pixels x p q) := by
  rw [max_fold]
  simp only [block_at]

/-- The logarithm of the drawn pixel's share. -/
theorem share_at (i : grid0.Coords) (x : Vec Ideal S1x64x8x512 .f32) (p : Fin 8) (q : Fin 512) :
    k0_pay54 (k0_pay52 (k0_pay107 i x) (k0_pay106 i x) (k0_pay117 i x) (k0_pay118 i x) (k0_pay119 i x) (k0_pay120 i x))
        (k0_pay53 (k0_pay107 i x)) (ix2 p q)
      = Spec.logShare (pixels x p q) (pick i x p q) := by
  have hv := value_at i x p q
  unfold k0_pay122 at hv
  have hs : k0_pay53 (k0_pay107 i x) (ix2 p q)
      = Ideal.log (∑ l, Ideal.exp (pixels x p q l - Spec.top (pixels x p q))) := by
    rw [log_sum]
    simp only [block_at]
  simp only [k0_pay54, k0_pay52, subf, hs, hv, top_at, Ideal.subf_def]
  rfl

/-- The acceptance of a cell. -/
theorem accept_at (i : grid0.Coords) (x : Vec Ideal S1x64x8x512 .f32) (p : Fin 8) (q : Fin 512) :
    k0_pay103 (k0_pay122 i x) (k0_pay132 i x) (k0_pay133 i x) (k0_pay134 i x) (ix2 p q)
      = Spec.accepted (pixels x p q) (number i p q) := by
  have hw : KWords2.cell (ix2 p q) + BitVec.ofNat 32 (i 0).val * 4096#32 = BitVec.ofNat 32 (number i p q) := by
    have e : number i p q = p.val * 512 + q.val + (i 0).val * 4096 := by unfold number; omega
    rw [e, BitVec.ofNat_add, BitVec.ofNat_add, BitVec.ofNat_mul, BitVec.ofNat_mul]
    rfl
  have hb := KWords2.word i x (ix2 p q)
  rw [hw] at hb
  rw [accept_word, value_at, hb]
  rfl

/-- The drawn pixel's column in the image. -/
theorem column_at (i : grid0.Coords) (x : Vec Ideal S1x64x8x512 .f32) (z : Fin 1) (p : Fin 8) (q : Fin 512) :
    k0_pay1 (F := Ideal) (k0_pay121 i x) (k0_pay123 i x) (ix3 z p q) = Spec.column (512 * p.val + q.val) (pick i x p q) := by
  rw [column_word, drawn_at]
  unfold k0_pay123
  rw [KWords2.cell_eq, cell_word]
  exact Spec.column_word _ _

/-- The drawn pixel's row in the image. -/
theorem row_at (i : grid0.Coords) (x : Vec Ideal S1x64x8x512 .f32) (z : Fin 1) (p : Fin 8) (q : Fin 512) :
    k0_pay2 (F := Ideal) (k0_pay121 i x) (k0_pay123 i x) (ix3 z p q) = Spec.row (512 * p.val + q.val) (pick i x p q) := by
  rw [row_word, drawn_at]
  unfold k0_pay123
  rw [KWords2.cell_eq, cell_word]
  exact Spec.row_word _ _ (by omega)

/-- The logarithm of the sample's probability. -/
theorem prob_at (i : grid0.Coords) (x : Vec Ideal S1x64x8x512 .f32) (z : Fin 1) (p : Fin 8) (q : Fin 512) :
    k0_pay104 (k0_pay122 i x) (k0_pay54 (k0_pay52 (k0_pay107 i x) (k0_pay106 i x) (k0_pay117 i x) (k0_pay118 i x)
        (k0_pay119 i x) (k0_pay120 i x)) (k0_pay53 (k0_pay107 i x))) (k0_pay132 i x) (k0_pay133 i x) (k0_pay134 i x) (ix3 z p q)
      = Spec.logProb (pixels x p q) (number i p q) := by
  rw [prob_sum, share_at, accept_at, value_at]
  rfl

/-- The stored acceptance. -/
theorem stored_at (i : grid0.Coords) (x : Vec Ideal S1x64x8x512 .f32) (z : Fin 1) (p : Fin 8) (q : Fin 512) :
    k0_pay105 (k0_pay122 i x) (k0_pay132 i x) (k0_pay133 i x) (k0_pay134 i x) (ix3 z p q)
      = Spec.accepted (pixels x p q) (number i p q) := by
  rw [stored_accept, accept_at]

end Cert.KBlock

end
-- ==== Proof.Image.lean ====
module

public import proofs.«01_k».proof.Proof.Spec
public import Idealize.ShloMosaic.Lib.Pointwise

@[expose] public section

noncomputable section

/-! # The samples of a whole batch

    The batch is sixteen images of 512 by 512 pixels, each cut into 4096 cells of 8 by 8: cell `c` of an
    image stands in row `c / 64` and column `c % 64` of its cells. -/

namespace Cert.Image

open Idealize.ShloMosaic

/-- The pixels of cell `c` of image `b`, row by row. -/
def cell (x : (⟨4, ![16, 1, 512, 512]⟩ : Shape).Idx → EReal) (b : Fin 16) (c : Fin 4096) : Fin 64 → EReal := fun l =>
  x (ix4 b 0 ⟨8 * (c.val / 64) + l.val / 8, by omega⟩ ⟨8 * (c.val % 64) + l.val % 8, by omega⟩)

/-- The cell's number in the batch. -/
def number (b : Fin 16) (c : Fin 4096) : ℕ := 4096 * b.val + c.val

/-- The pixel drawn. -/
def pick (x : (⟨4, ![16, 1, 512, 512]⟩ : Shape).Idx → EReal) (b : Fin 16) (c : Fin 4096) : Fin 64 :=
  Spec.pick (cell x b c) (number b c)

/-- The acceptance. -/
def accepted (x : (⟨4, ![16, 1, 512, 512]⟩ : Shape).Idx → EReal) (b : Fin 16) (c : Fin 4096) : EReal :=
  Spec.accepted (cell x b c) (number b c)

/-- The logarithm of the sample's probability. -/
def logProb (x : (⟨4, ![16, 1, 512, 512]⟩ : Shape).Idx → EReal) (b : Fin 16) (c : Fin 4096) : EReal :=
  Spec.logProb (cell x b c) (number b c)

/-- The drawn pixel's column in the image. -/
def column (x : (⟨4, ![16, 1, 512, 512]⟩ : Shape).Idx → EReal) (b : Fin 16) (c : Fin 4096) : EReal :=
  Spec.column c.val (pick x b c)

/-- The drawn pixel's row in the image. -/
def row (x : (⟨4, ![16, 1, 512, 512]⟩ : Shape).Idx → EReal) (b : Fin 16) (c : Fin 4096) : EReal :=
  Spec.row c.val (pick x b c)

/-- The cell in row `p` and column `q` of an image's cells. -/
def spot (p q : Fin 64) : Fin 4096 := ⟨64 * p.val + q.val, by omega⟩

/-- The first result: each cell's drawn pixel, its column and then its row. -/
def points (x : (⟨4, ![16, 1, 512, 512]⟩ : Shape).Idx → EReal) : (⟨4, ![16, 64, 64, 2]⟩ : Shape).Idx → EReal := fun j =>
  if (j 3).val = 0 then column x (j 0) (spot (j 1) (j 2)) else row x (j 0) (spot (j 1) (j 2))

/-- The second result: the logarithm of each cell's sample's probability. -/
def probs (x : (⟨4, ![16, 1, 512, 512]⟩ : Shape).Idx → EReal) : (⟨3, ![16, 64, 64]⟩ : Shape).Idx → EReal := fun j =>
  logProb x (j 0) (spot (j 1) (j 2))

/-- The third result: which cells accept. -/
def mask (x : (⟨4, ![16, 1, 512, 512]⟩ : Shape).Idx → EReal) : (⟨3, ![16, 64, 64]⟩ : Shape).Idx → BitVec 1 := fun j =>
  BitVec.ofBool (decide (0 < accepted x (j 0) (spot (j 1) (j 2))))

end Cert.Image

end
-- ==== Proof.KArrays.lean ====
module

public import proofs.«01_k».proof.Proof.KBlock
public import proofs.«01_k».proof.Proof.Image
public import proofs.«01_k».proof.Proof.Gen.KernelIdeal.Run
public import Idealize.ShloMosaic.Lib.Pipeline.ValueKit

@[expose] public section

set_option maxRecDepth 16384

noncomputable section

/-! # What the kernel's arrays hold

    Each of the four arrays the launch writes, at every index, in terms of the launched batch. -/

namespace Cert.KArrays

open Idealize.ShloMosaic Idealize.ShloMosaic.TcCoe Cert.KernelIdeal Cert.KernelIdeal.Gen Cert.Words

variable (m : (ℓ : Loc nD τ sig) → Buf (Elt Ideal) ℓ) (c : Dev nD)

/-- The launched batch. -/
def batch : (⟨4, ![16, 1, 512, 512]⟩ : Shape).Idx → EReal := m ((c.tc : Thread nD τ).loc main_arg0)

/-- The place in its image of the cell a block's index names. -/
def place (p : Fin 8) (q : Fin 512) : Fin 4096 := ⟨512 * p.val + q.val, by omega⟩

/-- The input window's block index is the grid point's coordinate. -/
theorem index_in : ∀ t : Fin cfg0.N, win0_0.index t = ![(grid0.coords t 0).val, 0, 0, 0] := by decide +kernel

/-- The host's rearrangement of the batch. -/
theorem rearranged_eq : V m c main_v2 = shapeCast S16x64x8x512 (transpose S16x8x8x64x64 [0, 2, 4, 1, 3]
    (shapeCast S16x64x8x64x8 (batch m c) shapeCasts_S16x1x512x512_S16x64x8x64x8) transposes_S16x64x8x64x8_S16x8x8x64x64_0_2_4_1_3)
    shapeCasts_S16x8x8x64x64_S16x64x8x512 := by
  show StableHlo.after (List.flatten [hostOps0]) _ (Proc.devRef .tc main_v2) = _
  simp only [hostOps0, List.flatten_cons, List.flatten_nil, List.append_nil, List.cons_append, List.nil_append]
  after_results <;> rfl

/-- The rearrangement at an index: pixel `l` of a cell. -/
theorem rearranged (x : Vec Ideal S16x1x512x512 .f32) (b : Fin 16) (l : Fin 64) (p : Fin 8) (q : Fin 512) :
    shapeCast S16x64x8x512 (transpose S16x8x8x64x64 [0, 2, 4, 1, 3]
      (shapeCast S16x64x8x64x8 x shapeCasts_S16x1x512x512_S16x64x8x64x8) transposes_S16x64x8x64x8_S16x8x8x64x64_0_2_4_1_3)
      shapeCasts_S16x8x8x64x64_S16x64x8x512 (ix4 b l p q) = Image.cell x b (place p q) l := by
  pointwise []
  unfold Image.cell place
  congr 2 <;> (apply Fin.ext; show _ = _; dsimp only; omega)

/-- The block of pixels the kernel reads, cell by cell. -/
theorem block (t : Fin cfg0.N) (b : Fin 16) (hb : (grid0.coords t 0).val = b.val) (p : Fin 8) (q : Fin 512) :
    KBlock.pixels (iblk m c 0 t) p q = Image.cell (batch m c) b (place p q) := by
  funext l
  rw [← rearranged, ← rearranged_eq]
  unfold KBlock.pixels
  blk_simp [iblk, index_in t]
  blk_ext [index_in t]

/-- A block's cell has its number in the batch. -/
theorem number (t : Fin cfg0.N) (b : Fin 16) (hb : (grid0.coords t 0).val = b.val) (p : Fin 8) (q : Fin 512) :
    KBlock.number (grid0.coords t) p q = Image.number b (place p q) := by
  rw [KBlock.number, Image.number, hb]
  rfl

/-- The block index of the window 1 is the grid point's coordinate. -/
theorem index_1 : ∀ t : Fin cfg0.N, win0_1.index t = ![(grid0.coords t 0).val, 0, 0] := by decide +kernel

/-- The logarithms of the samples' probabilities. -/
theorem probs : Value.reg_main_v3_0 m c = fun j => Image.logProb (batch m c) (j 0) (place (j 1) (j 2)) := by
  unfold Value.reg_main_v3_0
  refine (dats m 0 c).arrAt_eq_of_covers 1 _ (by decide +kernel) fun t hf y => ?_
  blk_simp
  rw [after0_1]
  frame_out
  idx_vars y
  have e0 : (grid0.coords t 0).val = (((View.whole main_v3_0).slice (win0_1.rect t)).emb (ix3 y0 y1 y2) 0).val := by
    blk_simp [index_1 t]
  have e1 : ((View.whole main_v3_0).slice (win0_1.rect t)).emb (ix3 y0 y1 y2) 1 = y1 := by
    apply Fin.ext
    blk_simp [index_1 t]
  have e2 : ((View.whole main_v3_0).slice (win0_1.rect t)).emb (ix3 y0 y1 y2) 2 = y2 := by
    apply Fin.ext
    blk_simp [index_1 t]
  rw [KBlock.prob_at, e1, e2]
  rw [block m c t _ e0, number t _ e0]
  rfl

/-- The block index of the window 2 is the grid point's coordinate. -/
theorem index_2 : ∀ t : Fin cfg0.N, win0_2.index t = ![(grid0.coords t 0).val, 0, 0] := by decide +kernel

/-- The acceptances. -/
theorem accepts : Value.reg_main_v3_1 m c = fun j => Image.accepted (batch m c) (j 0) (place (j 1) (j 2)) := by
  unfold Value.reg_main_v3_1
  refine (dats m 0 c).arrAt_eq_of_covers 2 _ (by decide +kernel) fun t hf y => ?_
  blk_simp
  rw [after0_2]
  frame_out
  idx_vars y
  have e0 : (grid0.coords t 0).val = (((View.whole main_v3_1).slice (win0_2.rect t)).emb (ix3 y0 y1 y2) 0).val := by
    blk_simp [index_2 t]
  have e1 : ((View.whole main_v3_1).slice (win0_2.rect t)).emb (ix3 y0 y1 y2) 1 = y1 := by
    apply Fin.ext
    blk_simp [index_2 t]
  have e2 : ((View.whole main_v3_1).slice (win0_2.rect t)).emb (ix3 y0 y1 y2) 2 = y2 := by
    apply Fin.ext
    blk_simp [index_2 t]
  rw [KBlock.stored_at, e1, e2]
  rw [block m c t _ e0, number t _ e0]
  rfl

/-- The block index of the window 3 is the grid point's coordinate. -/
theorem index_3 : ∀ t : Fin cfg0.N, win0_3.index t = ![(grid0.coords t 0).val, 0, 0] := by decide +kernel

/-- The drawn pixels' columns. -/
theorem columns : Value.reg_main_v3_2 m c = fun j => Image.column (batch m c) (j 0) (place (j 1) (j 2)) := by
  unfold Value.reg_main_v3_2
  refine (dats m 0 c).arrAt_eq_of_covers 3 _ (by decide +kernel) fun t hf y => ?_
  blk_simp
  rw [after0_3]
  frame_out
  idx_vars y
  have e0 : (grid0.coords t 0).val = (((View.whole main_v3_2).slice (win0_3.rect t)).emb (ix3 y0 y1 y2) 0).val := by
    blk_simp [index_3 t]
  have e1 : ((View.whole main_v3_2).slice (win0_3.rect t)).emb (ix3 y0 y1 y2) 1 = y1 := by
    apply Fin.ext
    blk_simp [index_3 t]
  have e2 : ((View.whole main_v3_2).slice (win0_3.rect t)).emb (ix3 y0 y1 y2) 2 = y2 := by
    apply Fin.ext
    blk_simp [index_3 t]
  rw [KBlock.column_at, e1, e2]
  unfold KBlock.pick
  rw [block m c t _ e0, number t _ e0]
  rfl

/-- The block index of the window 4 is the grid point's coordinate. -/
theorem index_4 : ∀ t : Fin cfg0.N, win0_4.index t = ![(grid0.coords t 0).val, 0, 0] := by decide +kernel

/-- The drawn pixels' rows. -/
theorem rows : Value.reg_main_v3_3 m c = fun j => Image.row (batch m c) (j 0) (place (j 1) (j 2)) := by
  unfold Value.reg_main_v3_3
  refine (dats m 0 c).arrAt_eq_of_covers 4 _ (by decide +kernel) fun t hf y => ?_
  blk_simp
  rw [after0_4]
  frame_out
  idx_vars y
  have e0 : (grid0.coords t 0).val = (((View.whole main_v3_3).slice (win0_4.rect t)).emb (ix3 y0 y1 y2) 0).val := by
    blk_simp [index_4 t]
  have e1 : ((View.whole main_v3_3).slice (win0_4.rect t)).emb (ix3 y0 y1 y2) 1 = y1 := by
    apply Fin.ext
    blk_simp [index_4 t]
  have e2 : ((View.whole main_v3_3).slice (win0_4.rect t)).emb (ix3 y0 y1 y2) 2 = y2 := by
    apply Fin.ext
    blk_simp [index_4 t]
  rw [KBlock.row_at, e1, e2]
  unfold KBlock.pick
  rw [block m c t _ e0, number t _ e0]
  rfl

end Cert.KArrays

end
-- ==== Proof.KResults.lean ====
module

public import proofs.«01_k».proof.Proof.KArrays

@[expose] public section

set_option maxRecDepth 16384

noncomputable section

/-! # The kernel's results

    The three results the host makes of the four arrays. -/

namespace Cert.KResults

open Idealize.ShloMosaic Idealize.ShloMosaic.TcCoe Cert.KernelIdeal Cert.KernelIdeal.Gen

/-- An array over the blocks' cells, reshaped to rows and columns of cells. -/
theorem reshaped (r : FVec Ideal S16x8x512 .f32) (g : Fin 16 → Fin 4096 → EReal)
    (h : r = fun j => g (j 0) (KArrays.place (j 1) (j 2))) (b : Fin 16) (p q : Fin 64) :
    shapeCast S16x64x64 r shapeCasts_S16x8x512_S16x64x64 (ix3 b p q) = g b (Image.spot p q) := by
  pointwise []
  rw [h]
  refine congrArg (g b) (Fin.ext ?_)
  show 512 * (p.val / 8) + (p.val % 8 * 64 + q.val) = 64 * p.val + q.val
  omega

/-- The comparison with zero, cell by cell. -/
theorem positive (v : FVec Ideal S16x64x64 .f32) (j : S16x64x64.Idx) :
    cmpf .ogt v (broadcastInDim S16x64x64 ![] bcast_S_S16x64x64 (constant S_ .f32 0x00000000#32)) j
      = BitVec.ofBool (decide (0 < v j)) := by
  idx_vars j
  pointwise []

/-- Two arrays joined along a new last axis. -/
theorem joined (u v : FVec Ideal S16x64x64 .f32) (b : Fin 16) (p q : Fin 64) (k : Fin 2) :
    concatenate S16x64x64x2 3 [⟨S16x64x64x1, (broadcastInDim S16x64x64x1 ![0, 1, 2] bcast_S16x64x64_S16x64x64x1_0_1_2 u)⟩, ⟨S16x64x64x1, (broadcastInDim S16x64x64x1 ![0, 1, 2] bcast_S16x64x64_S16x64x64x1_0_1_2 v)⟩] concatenates_S16x64x64x1_S16x64x64x1_S16x64x64x2_d3 (ix4 b p q k)
      = if k.val = 0 then u (ix3 b p q) else v (ix3 b p q) := by
  pointwise []
  simp only [Nat.lt_one_iff, dite_eq_ite]

variable (m : (ℓ : Loc nD τ sig) → Buf (Elt Ideal) ℓ) (c : Dev nD)

/-- The second result. -/
theorem probs : (shapeCast _ (Value.reg_main_v3_0 m c) shapeCasts_S16x8x512_S16x64x64 : FVec Ideal S16x64x64 .f32)
    = Image.probs (KArrays.batch m c) := by
  funext j
  idx_vars j
  exact reshaped _ _ (KArrays.probs m c) _ _ _

/-- The third result. -/
theorem mask : (cmpf .ogt (shapeCast _ (Value.reg_main_v3_1 m c) shapeCasts_S16x8x512_S16x64x64 : FVec Ideal S16x64x64 .f32)
      (broadcastInDim S16x64x64 ![] bcast_S_S16x64x64 (constant S_ .f32 0x00000000#32)))
    = Image.mask (KArrays.batch m c) := by
  funext j
  rw [positive]
  idx_vars j
  rw [reshaped _ _ (KArrays.accepts m c)]
  rfl

/-- The first result. -/
theorem points : (concatenate S16x64x64x2 3 [⟨S16x64x64x1, (broadcastInDim S16x64x64x1 ![0, 1, 2] bcast_S16x64x64_S16x64x64x1_0_1_2 (shapeCast _ (Value.reg_main_v3_2 m c) shapeCasts_S16x8x512_S16x64x64))⟩, ⟨S16x64x64x1, (broadcastInDim S16x64x64x1 ![0, 1, 2] bcast_S16x64x64_S16x64x64x1_0_1_2 (shapeCast _ (Value.reg_main_v3_3 m c) shapeCasts_S16x8x512_S16x64x64))⟩] concatenates_S16x64x64x1_S16x64x64x1_S16x64x64x2_d3 : FVec Ideal S16x64x64x2 .f32)
    = Image.points (KArrays.batch m c) := by
  funext j
  idx_vars j
  rw [joined, reshaped _ _ (KArrays.columns m c), reshaped _ _ (KArrays.rows m c)]
  rfl

end Cert.KResults

end
-- ==== Proof.RWords1.lean ====
module

public import proofs.«01_k».proof.Proof.Words
public import proofs.«01_k».proof.Proof.Gen.ReferenceIdeal.Read

@[expose] public section

set_option maxHeartbeats 1000000

noncomputable section

/-! # The reference's first random words

    The words the reference draws for every pixel of the array, read group by group of its rounds. -/

namespace Cert.RWords1

open Idealize.ShloMosaic Cert.ReferenceIdeal Cert.ReferenceIdeal.Read Cert.Words

/-- The number of an element, counted row by row through the array. -/
def count (i : S16x1x64x64x64.Idx) : ℕ :=
  262144 * (i 0).val + 262144 * (i 1).val + 4096 * (i 2).val + 64 * (i 3).val + 1 * (i 4).val

/-- Every element's number is below `2 ^ 32`. -/
theorem count_lt (i : S16x1x64x64x64.Idx) : count i < 2 ^ 32 := by
  have h0 : (i 0).val < 16 := (i 0).isLt
  have h1 : (i 1).val < 1 := (i 1).isLt
  have h2 : (i 2).val < 64 := (i 2).isLt
  have h3 : (i 3).val < 64 := (i 3).isLt
  have h4 : (i 4).val < 64 := (i 4).isLt
  unfold count; omega

/-- The reference's 64-bit counter is that number. -/
theorem counter (i : S16x1x64x64x64.Idx) : val_main_v21 (F := Ideal) i = BitVec.ofNat 64 (count i) := by
  simp only [count, BitVec.ofNat_add, BitVec.ofNat_mul, IntOp.addi, IntOp.muli,
    val_main_v21_apply, val_main_v20_apply, val_main_v19_apply, val_main_v18_apply, val_main_v9_apply, val_main_v8_apply,
    val_main_c_3_apply, val_main_v3_apply, val_main_v11_apply, val_main_v10_apply, val_main_c_4_apply, val_main_v4_apply,
    val_main_v13_apply, val_main_v12_apply, val_main_c_5_apply, val_main_v5_apply, val_main_v15_apply, val_main_v14_apply,
    val_main_c_6_apply, val_main_v6_apply, val_main_v17_apply, val_main_v16_apply, val_main_c_7_apply, val_main_v7_apply]

/-- The key's third word. -/
theorem third (i : S_.Idx) : val_main_v27 (F := Ideal) i = 3780455752#32 := by
  simp only [IntOp.xori,
    val_main_v27_apply, val_main_v26_apply, val_main_c_apply, val_main_c_0_apply, val_main_c_9_apply]
  decide

/-- The rounds' start. -/
theorem start_eq (i : S16x1x64x64x64.Idx) :
    val_main_v29 (F := Ideal) i = (start 928981903#32 3453687069#32 (BitVec.ofNat 32 (count i))).1
    ∧ val_main_v31 (F := Ideal) i = (start 928981903#32 3453687069#32 (BitVec.ofNat 32 (count i))).2 := by
  have hlo : (BitVec.ofNat 64 (count i)).setWidth 32 = BitVec.ofNat 32 (count i) :=
    BitVec.setWidth_ofNat_of_le (by decide) _
  have hhi : (IntOp.shrui .host (BitVec.ofNat 64 (count i)) 32#64).setWidth 32 = 0#32 := by
    have hc := count_lt i
    have hs : IntOp.shrui .host (BitVec.ofNat 64 (count i)) 32#64 = BitVec.ofNat 64 (count i) >>> 32 :=
      if_pos (by decide)
    apply BitVec.eq_of_toNat_eq
    rw [hs]
    simp only [BitVec.toNat_setWidth, BitVec.toNat_ushiftRight, BitVec.toNat_ofNat, Nat.shiftRight_eq_div_pow]
    rw [Nat.mod_eq_of_lt (show count i < 2 ^ 64 by omega), Nat.div_eq_of_lt hc]
  constructor
  · simp only [start, IntOp.addi, counter, hhi, BitVec.zero_add,
    val_main_v29_apply, val_main_v25_apply, val_main_v23_apply, val_main_v22_apply, val_main_c_8_apply, val_main_v28_apply,
    val_main_c_apply]
  · simp only [start, IntOp.addi, counter, hlo,
    val_main_v31_apply, val_main_v24_apply, val_main_v30_apply, val_main_c_0_apply]

/-- The first group of rounds and the key words after it. -/
theorem group1 (i : S16x1x64x64x64.Idx) (s : W × W)
    (h : val_main_v29 (F := Ideal) i = s.1) (h' : val_main_v31 (F := Ideal) i = s.2) :
    val_main_v61 (F := Ideal) i = (inject 3453687069#32 3780455752#32 1#32 (fourA s)).1
    ∧ val_main_v65 (F := Ideal) i = (inject 3453687069#32 3780455752#32 1#32 (fourA s)).2 := by
  constructor <;> simp (disch := decide) only [h, h', third, fourA, threeA, IntOp.addi, IntOp.xori, IntOp.ori, shli_lt, shrui_lt, mix_fst, mix_turn, inject_fst, inject_snd,
    val_main_v61_apply, val_main_v53_apply, val_main_v46_apply, val_main_v39_apply, val_main_v32_apply, val_main_v38_apply,
    val_main_v37_apply, val_main_v34_apply, val_main_v33_apply, val_main_c_10_apply, val_main_v36_apply, val_main_v35_apply,
    val_main_c_11_apply, val_main_v45_apply, val_main_v44_apply, val_main_v41_apply, val_main_v40_apply, val_main_c_12_apply,
    val_main_v43_apply, val_main_v42_apply, val_main_c_13_apply, val_main_v52_apply, val_main_v51_apply, val_main_v48_apply,
    val_main_v47_apply, val_main_c_14_apply, val_main_v50_apply, val_main_v49_apply, val_main_c_15_apply, val_main_v60_apply,
    val_main_c_0_apply, val_main_v65_apply, val_main_v63_apply, val_main_v59_apply, val_main_v58_apply, val_main_v55_apply,
    val_main_v54_apply, val_main_c_16_apply, val_main_v57_apply, val_main_v56_apply, val_main_c_17_apply, val_main_v62_apply,
    val_main_v64_apply, val_main_c_18_apply]

/-- The second group of rounds and the key words after it. -/
theorem group2 (i : S16x1x64x64x64.Idx) (s : W × W)
    (h : val_main_v61 (F := Ideal) i = s.1) (h' : val_main_v65 (F := Ideal) i = s.2) :
    val_main_v95 (F := Ideal) i = (inject 3780455752#32 928981903#32 2#32 (fourB s)).1
    ∧ val_main_v99 (F := Ideal) i = (inject 3780455752#32 928981903#32 2#32 (fourB s)).2 := by
  constructor <;> simp (disch := decide) only [h, h', third, fourB, threeB, IntOp.addi, IntOp.xori, IntOp.ori, shli_lt, shrui_lt, mix_fst, mix_turn, inject_fst, inject_snd,
    val_main_v95_apply, val_main_v87_apply, val_main_v80_apply, val_main_v73_apply, val_main_v66_apply, val_main_v72_apply,
    val_main_v71_apply, val_main_v68_apply, val_main_v67_apply, val_main_c_19_apply, val_main_v70_apply, val_main_v69_apply,
    val_main_c_20_apply, val_main_v79_apply, val_main_v78_apply, val_main_v75_apply, val_main_v74_apply, val_main_c_21_apply,
    val_main_v77_apply, val_main_v76_apply, val_main_c_22_apply, val_main_v86_apply, val_main_v85_apply, val_main_v82_apply,
    val_main_v81_apply, val_main_c_23_apply, val_main_v84_apply, val_main_v83_apply, val_main_c_24_apply, val_main_v94_apply,
    val_main_v99_apply, val_main_v97_apply, val_main_v93_apply, val_main_v92_apply, val_main_v89_apply, val_main_v88_apply,
    val_main_c_25_apply, val_main_v91_apply, val_main_v90_apply, val_main_c_26_apply, val_main_v96_apply, val_main_c_apply,
    val_main_v98_apply, val_main_c_27_apply]

/-- The third group of rounds and the key words after it. -/
theorem group3 (i : S16x1x64x64x64.Idx) (s : W × W)
    (h : val_main_v95 (F := Ideal) i = s.1) (h' : val_main_v99 (F := Ideal) i = s.2) :
    val_main_v129 (F := Ideal) i = (inject 928981903#32 3453687069#32 3#32 (fourA s)).1
    ∧ val_main_v133 (F := Ideal) i = (inject 928981903#32 3453687069#32 3#32 (fourA s)).2 := by
  constructor <;> simp (disch := decide) only [h, h', third, fourA, threeA, IntOp.addi, IntOp.xori, IntOp.ori, shli_lt, shrui_lt, mix_fst, mix_turn, inject_fst, inject_snd,
    val_main_v129_apply, val_main_v121_apply, val_main_v114_apply, val_main_v107_apply, val_main_v100_apply, val_main_v106_apply,
    val_main_v105_apply, val_main_v102_apply, val_main_v101_apply, val_main_c_28_apply, val_main_v104_apply, val_main_v103_apply,
    val_main_c_29_apply, val_main_v113_apply, val_main_v112_apply, val_main_v109_apply, val_main_v108_apply, val_main_c_30_apply,
    val_main_v111_apply, val_main_v110_apply, val_main_c_31_apply, val_main_v120_apply, val_main_v119_apply, val_main_v116_apply,
    val_main_v115_apply, val_main_c_32_apply, val_main_v118_apply, val_main_v117_apply, val_main_c_33_apply, val_main_v128_apply,
    val_main_c_apply, val_main_v133_apply, val_main_v131_apply, val_main_v127_apply, val_main_v126_apply, val_main_v123_apply,
    val_main_v122_apply, val_main_c_34_apply, val_main_v125_apply, val_main_v124_apply, val_main_c_35_apply, val_main_v130_apply,
    val_main_c_0_apply, val_main_v132_apply, val_main_c_36_apply]

/-- The fourth group of rounds and the key words after it. -/
theorem group4 (i : S16x1x64x64x64.Idx) (s : W × W)
    (h : val_main_v129 (F := Ideal) i = s.1) (h' : val_main_v133 (F := Ideal) i = s.2) :
    val_main_v163 (F := Ideal) i = (inject 3453687069#32 3780455752#32 4#32 (fourB s)).1
    ∧ val_main_v167 (F := Ideal) i = (inject 3453687069#32 3780455752#32 4#32 (fourB s)).2 := by
  constructor <;> simp (disch := decide) only [h, h', third, fourB, threeB, IntOp.addi, IntOp.xori, IntOp.ori, shli_lt, shrui_lt, mix_fst, mix_turn, inject_fst, inject_snd,
    val_main_v163_apply, val_main_v155_apply, val_main_v148_apply, val_main_v141_apply, val_main_v134_apply, val_main_v140_apply,
    val_main_v139_apply, val_main_v136_apply, val_main_v135_apply, val_main_c_37_apply, val_main_v138_apply, val_main_v137_apply,
    val_main_c_38_apply, val_main_v147_apply, val_main_v146_apply, val_main_v143_apply, val_main_v142_apply, val_main_c_39_apply,
    val_main_v145_apply, val_main_v144_apply, val_main_c_40_apply, val_main_v154_apply, val_main_v153_apply, val_main_v150_apply,
    val_main_v149_apply, val_main_c_41_apply, val_main_v152_apply, val_main_v151_apply, val_main_c_42_apply, val_main_v162_apply,
    val_main_c_0_apply, val_main_v167_apply, val_main_v165_apply, val_main_v161_apply, val_main_v160_apply, val_main_v157_apply,
    val_main_v156_apply, val_main_c_43_apply, val_main_v159_apply, val_main_v158_apply, val_main_c_44_apply, val_main_v164_apply,
    val_main_v166_apply, val_main_c_45_apply]

/-- The fifth group of rounds and the key words after it. -/
theorem group5 (i : S16x1x64x64x64.Idx) (s : W × W)
    (h : val_main_v163 (F := Ideal) i = s.1) (h' : val_main_v167 (F := Ideal) i = s.2) :
    val_main_v197 (F := Ideal) i = (inject 3780455752#32 928981903#32 5#32 (fourA s)).1
    ∧ val_main_v201 (F := Ideal) i = (inject 3780455752#32 928981903#32 5#32 (fourA s)).2 := by
  constructor <;> simp (disch := decide) only [h, h', third, fourA, threeA, IntOp.addi, IntOp.xori, IntOp.ori, shli_lt, shrui_lt, mix_fst, mix_turn, inject_fst, inject_snd,
    val_main_v197_apply, val_main_v189_apply, val_main_v182_apply, val_main_v175_apply, val_main_v168_apply, val_main_v174_apply,
    val_main_v173_apply, val_main_v170_apply, val_main_v169_apply, val_main_c_46_apply, val_main_v172_apply, val_main_v171_apply,
    val_main_c_47_apply, val_main_v181_apply, val_main_v180_apply, val_main_v177_apply, val_main_v176_apply, val_main_c_48_apply,
    val_main_v179_apply, val_main_v178_apply, val_main_c_49_apply, val_main_v188_apply, val_main_v187_apply, val_main_v184_apply,
    val_main_v183_apply, val_main_c_50_apply, val_main_v186_apply, val_main_v185_apply, val_main_c_51_apply, val_main_v196_apply,
    val_main_v201_apply, val_main_v199_apply, val_main_v195_apply, val_main_v194_apply, val_main_v191_apply, val_main_v190_apply,
    val_main_c_52_apply, val_main_v193_apply, val_main_v192_apply, val_main_c_53_apply, val_main_v198_apply, val_main_c_apply,
    val_main_v200_apply, val_main_c_54_apply]

/-- The word the reference draws for an element. -/
theorem word (i : S16x1x64x64x64.Idx) :
    val_main_v202 (F := Ideal) i = bits1 (BitVec.ofNat 32 (count i)) := by
  obtain ⟨a0, b0⟩ := start_eq i
  obtain ⟨a1, b1⟩ := group1 i _ a0 b0
  obtain ⟨a2, b2⟩ := group2 i _ a1 b1
  obtain ⟨a3, b3⟩ := group3 i _ a2 b2
  obtain ⟨a4, b4⟩ := group4 i _ a3 b3
  obtain ⟨a5, b5⟩ := group5 i _ a4 b4
  rw [val_main_v202_apply, a5, b5]
  rfl

end Cert.RWords1

end
-- ==== Proof.RScore.lean ====
module

public import proofs.«01_k».proof.Proof.RWords1
public import proofs.«01_k».proof.Proof.Image
public import Idealize.ShloMosaic.Lib.Pointwise

@[expose] public section

set_option maxRecDepth 16384

noncomputable section

/-! # The pixel the reference draws

    The reference's cells, the scores of their pixels, and the position its top-1 names. -/

namespace Cert.RScore

open Idealize.ShloMosaic Cert.ReferenceIdeal Cert.ReferenceIdeal.Gen Cert.ReferenceIdeal.Read Cert.Words Cert.FirstMax

/-- The batch cut into cells. -/
theorem cells_at (x : Vec Ideal S16x1x512x512 .f32) (b : Fin 16) (z : Fin 1) (p q l : Fin 64) :
    val_main_v2 (F := Ideal) x (ix5 b z p q l) = Image.cell x b (Image.spot p q) l := by
  obtain rfl : z = 0 := Subsingleton.elim _ _
  pointwise [val_main_v2, val_main_v1, val_main_v0]
  unfold Image.cell Image.spot
  congr 2 <;> (apply Fin.ext; show _ = _; dsimp only; omega)

/-- A pixel's number in [0, 1). -/
theorem unit_at (i : S16x1x64x64x64.Idx) :
    val_main_v209 (F := Ideal) i = Spec.unit (bits1 (BitVec.ofNat 32 (RWords1.count i))) := by
  rw [val_main_v209_apply, val_main_v208_apply, val_main_v207_apply, val_main_v206_apply, val_main_v205_apply, val_main_v204_apply,
    val_main_v203_apply, val_main_cst_apply, val_main_c_55_apply, val_main_c_56_apply, RWords1.word]
  generalize bits1 (BitVec.ofNat 32 (RWords1.count i)) = w
  rw [shrui_lt _ _ _ (by decide), Ideal.subf_def, Ideal.ofBits_def, Ideal.ofBits_def, Spec.ofBits_one]
  rfl

/-- A pixel's score, at its word. -/
theorem noise_at (x : Vec Ideal S16x1x512x512 .f32) (i : S16x1x64x64x64.Idx) :
    val_main_v220 (F := Ideal) x i = Spec.score (val_main_v2 (F := Ideal) x i) (bits1 (BitVec.ofNat 32 (RWords1.count i))) := by
  rw [val_main_v220_apply, val_main_v219_apply, val_main_v218_apply, val_main_v217_apply, val_main_v216_apply, val_main_v215_apply,
    val_main_v214_apply, val_main_v213_apply, val_main_v212_apply, val_main_v211_apply, val_main_v210_apply,
    val_main_cst_57_apply, val_main_cst_58_apply, val_main_cst_59_apply, unit_at]
  generalize bits1 (BitVec.ofNat 32 (RWords1.count i)) = w
  generalize val_main_v2 (F := Ideal) x i = v
  rw [Spec.score, ← Spec.max_tiny, ← Spec.ofBits_one]
  rfl

/-- A pixel's score. -/
theorem score_at (x : Vec Ideal S16x1x512x512 .f32) (b : Fin 16) (z : Fin 1) (p q l : Fin 64) :
    val_main_v220 (F := Ideal) x (ix5 b z p q l)
      = Spec.score (Image.cell x b (Image.spot p q) l) (Spec.first (Image.number b (Image.spot p q)) l) := by
  have e : RWords1.count (ix5 b z p q l) = 64 * Image.number b (Image.spot p q) + l.val := by
    have hz : z.val = 0 := by omega
    show 262144 * b.val + 262144 * z.val + 4096 * p.val + 64 * q.val + 1 * l.val = 64 * (4096 * b.val + (64 * p.val + q.val)) + l.val
    omega
  rw [noise_at, cells_at, e]
  rfl

/-- Sorted greatest first, a line starts with its first greatest entry's number. -/
theorem sort_top (s : Shape) (d : Fin s.rank) (y : s.Idx → EReal) (n : IVec s 32) (j : s.Idx) (h0 : (j d).val = 0) :
    ∃ k : Fin (s.size d), IsFirst (fun k => y (j.along d k)) k
      ∧ (Host.sort2 s d.val (fun l r => FloatOps.cmpfTotal (F := Ideal) (φ := .f32) .gt l.1 r.1) y n).2 j = n (j.along d k) := by
  unfold Host.sort2
  rw [dif_pos d.isLt]
  refine ⟨_, sortedFrom_first _ _ (fun k k' => ?_) _ h0, rfl⟩
  show (BitVec.ofBool (decide (y (j.along d k') < y (j.along d k))) == 1#1) = _
  cases decide (y (j.along d k') < y (j.along d k)) <;> rfl

/-- An index moved along the last axis. -/
theorem along_last (b : Fin 16) (z : Fin 1) (p q k l : Fin 64) :
    Shape.Idx.along (s := S16x1x64x64x64) (ix5 b z p q k) 4 l = ix5 b z p q l := by
  funext a
  match a with
  | ⟨0, _⟩ => rfl
  | ⟨1, _⟩ => rfl
  | ⟨2, _⟩ => rfl
  | ⟨3, _⟩ => rfl
  | ⟨4, _⟩ => rfl

/-- The top-1 position is the first greatest entry's. -/
theorem top_at (y : FVec Ideal S16x1x64x64x64 .f32) (b : Fin 16) (z : Fin 1) (p q : Fin 64) (k : Fin 1) :
    (Host.topK S16x1x64x64x1 4 (FloatOps.cmpfTotal .gt) y sliceFits_S16x1x64x64x64_S16x1x64x64x1).2 (ix5 b z p q k)
      = BitVec.ofNat 32 (choice fun l => y (ix5 b z p q l)).val := by
  obtain rfl : k = 0 := Subsingleton.elim _ _
  obtain rfl : z = 0 := Subsingleton.elim _ _
  unfold Host.topK
  dsimp only
  generalize hn : (fun i => if hd : 4 < S16x1x64x64x64.rank then iotaInDim S16x1x64x64x64 32 ⟨4, hd⟩ i else 0#32) = n
  obtain ⟨k, hk, e⟩ := sort_top S16x1x64x64x64 4 y n (ix5 b 0 p q 0) rfl
  have hs (v : IVec S16x1x64x64x64 32) :
      extractStridedSlice S16x1x64x64x1 (fun _ => 0) v sliceFits_S16x1x64x64x64_S16x1x64x64x1 (ix5 b 0 p q 0) = v (ix5 b 0 p q 0) := by
    pointwise []
  refine (hs _).trans (e.trans ?_)
  have hk' : IsFirst (fun l : Fin 64 => y (ix5 b 0 p q l)) k :=
    (congrArg (fun f : Fin 64 → EReal => IsFirst f k) (funext fun l => congrArg y (along_last b 0 p q 0 l))).mp hk
  refine (congrArg n (along_last b 0 p q 0 k)).trans ?_
  rw [← hn, ← IsFirst.unique hk' (choice_first _)]
  rfl

/-- The position drawn. -/
theorem drawn_at (x : Vec Ideal S16x1x512x512 .f32) (b : Fin 16) (z : Fin 1) (p q : Fin 64) :
    val_main_v221 (F := Ideal) x (ix4 b z p q) = BitVec.ofNat 32 (Image.pick x b (Image.spot p q)).val := by
  pointwise [val_main_v221, val_main_indices]
  rw [top_at]
  simp only [score_at]
  rfl

end Cert.RScore

end
-- ==== Proof.RTake.lean ====
module

public import proofs.«01_k».proof.Proof.RScore

@[expose] public section

set_option maxRecDepth 16384

noncomputable section

/-! # What the reference reads at the position it drew

    The guarded position is the position itself, the guard holds, and the read takes the array there. -/

namespace Cert.RTake

open Idealize.ShloMosaic Cert.ReferenceIdeal Cert.ReferenceIdeal.Gen Cert.ReferenceIdeal.Read

/-- A position below sixty-four is not wrapped, -/
theorem unwrapped (k : Fin 64) :
    Scalar.select (IntOp.cmpi .slt (BitVec.ofNat 32 k.val) 0#32) (IntOp.addi (BitVec.ofNat 32 k.val) 64#32) (BitVec.ofNat 32 k.val)
      = BitVec.ofNat 32 k.val := by
  revert k; decide

/-- lies within the axis, -/
theorem within (k : Fin 64) :
    IntOp.andi (IntOp.cmpi .sge (BitVec.ofNat 32 k.val) 0#32) (IntOp.cmpi .sle (BitVec.ofNat 32 k.val) 63#32) = 1#1 := by
  revert k; decide

/-- and is not clamped. -/
theorem unclamped (k : Fin 64) : min (BitVec.ofNat 32 k.val).toInt.toNat 63 = k.val := by
  revert k; decide

/-- The first reads' positions, guarded. -/
theorem position_at (x : Vec Ideal S16x1x512x512 .f32) (b : Fin 16) (p q : Fin 64) (u v : Fin 1) :
    val_main_call1_v5 (F := Ideal) x (ix5 b p q u v) = BitVec.ofNat 32 (Image.pick x b (Image.spot p q)).val := by
  have h := RScore.drawn_at x b 0 p q
  unfold val_main_call1_v5 val_main_call1_v4 val_main_call1_v3 val_main_call1_v2 val_main_call1_v1 val_main_call1_v0 val_main_call1_c
    val_main_call1_c_0 val_main_v223
  generalize val_main_v221 (F := Ideal) x = y at *
  generalize Image.pick x b (Image.spot p q) = k at *
  pointwise []
  rw [h]
  exact unwrapped k

/-- Their guard holds. -/
theorem guard_at (x : Vec Ideal S16x1x512x512 .f32) (i : S16x64x64x1x1.Idx) : val_main_call1_v11 (F := Ideal) x i = 1#1 := by
  idx_vars i
  rw [val_main_call1_v11_apply, val_main_call1_v10_apply, val_main_call1_v9_apply, val_main_call1_v8_apply, val_main_call1_v7_apply,
    val_main_call1_v6_apply, val_main_call1_c_1_apply, val_main_call1_c_2_apply, position_at]
  exact within _

/-- A true guard chooses what was read. -/
theorem chosen {α : Type} (u v : α) : Scalar.select 1#1 u v = u := rfl

/-- A conjunction over an axis of one element, all of them true, is true. -/
theorem conj_one {s t : Shape} (a : List (Fin s.rank)) (y : IVec s 1) (c : IVec S_ 1) (h : s.ReducesTo a t) (hy : ∀ i, y i = 1#1)
    (hc : ∀ i, c i = 1#1) (j : t.Idx) : Host.reduce IntOp.andi y c h h_S_ j = 1#1 := by
  unfold Host.reduce
  rw [hc]
  generalize List.filter _ _ = l
  induction l with
  | nil => rfl
  | cons n l ih =>
    rw [List.foldl_cons, hy]
    exact ih

/-- The first reads' array at the drawn position. -/
theorem gather_at {α : Type} (y : S16x1x64x64x64.Idx → α) (n : IVec S16x64x64x1x1 32) (b : Fin 16) (z : Fin 1) (p q : Fin 64) (v : Fin 1)
    (k : Fin 64) (hn : n (ix5 b p q v 0) = BitVec.ofNat 32 k.val) :
    Host.gather gather_S16x1x64x64x64_S16x64x64x1x1_S16x1x64x64x1_1_4_023_012_4_4_11111 y n (ix5 b z p q v) = y (ix5 b z p q k) := by
  unfold Host.gather
  congr 1
  funext a
  refine Fin.ext ?_
  show GatherDims.start _ (ix5 b z p q v) n a + GatherDims.batchCoord _ (ix5 b z p q v) a + GatherDims.offCoord _ (ix5 b z p q v) a = _
  match a with
  | ⟨0, _⟩ => exact Nat.zero_add b.val
  | ⟨1, _⟩ => exact Nat.zero_add z.val
  | ⟨2, _⟩ => exact Nat.zero_add p.val
  | ⟨3, _⟩ => exact Nat.zero_add q.val
  | ⟨4, _⟩ =>
    have e : GatherDims.siIdx gather_S16x1x64x64x64_S16x64x64x1x1_S16x1x64x64x1_1_4_023_012_4_4_11111 (ix5 b z p q v) ⟨0, by decide⟩ = ix5 b p q v 0 := by
      funext c
      refine Fin.ext ?_
      match c with
      | ⟨0, _⟩ => rfl
      | ⟨1, _⟩ => rfl
      | ⟨2, _⟩ => rfl
      | ⟨3, _⟩ => rfl
      | ⟨4, _⟩ => rfl
    show min (n (GatherDims.siIdx _ (ix5 b z p q v) ⟨0, _⟩)).toInt.toNat 63 = k.val
    rw [e, hn]
    exact unclamped k

/-- The channels' array at the drawn position. -/
theorem gather_channel_at {α : Type} (y : S16x2x64x64x64.Idx → α) (n : IVec S16x2x64x64x1x1 32) (b : Fin 16) (d : Fin 2) (p q : Fin 64)
    (v : Fin 1) (k : Fin 64) (hn : n (ix6 b d p q v 0) = BitVec.ofNat 32 k.val) :
    Host.gather gather_S16x2x64x64x64_S16x2x64x64x1x1_S16x2x64x64x1_n_4_0123_0123_4_5_11111 y n (ix5 b d p q v) = y (ix5 b d p q k) := by
  unfold Host.gather
  congr 1
  funext a
  refine Fin.ext ?_
  show GatherDims.start _ (ix5 b d p q v) n a + GatherDims.batchCoord _ (ix5 b d p q v) a + GatherDims.offCoord _ (ix5 b d p q v) a = _
  match a with
  | ⟨0, _⟩ => exact Nat.zero_add b.val
  | ⟨1, _⟩ => exact Nat.zero_add d.val
  | ⟨2, _⟩ => exact Nat.zero_add p.val
  | ⟨3, _⟩ => exact Nat.zero_add q.val
  | ⟨4, _⟩ =>
    have e : GatherDims.siIdx gather_S16x2x64x64x64_S16x2x64x64x1x1_S16x2x64x64x1_n_4_0123_0123_4_5_11111 (ix5 b d p q v) ⟨0, by decide⟩ = ix6 b d p q v 0 := by
      funext c
      refine Fin.ext ?_
      match c with
      | ⟨0, _⟩ => rfl
      | ⟨1, _⟩ => rfl
      | ⟨2, _⟩ => rfl
      | ⟨3, _⟩ => rfl
      | ⟨4, _⟩ => rfl
      | ⟨5, _⟩ => rfl
    show min (n (GatherDims.siIdx _ (ix5 b d p q v) ⟨0, _⟩)).toInt.toNat 63 = k.val
    rw [e, hn]
    exact unclamped k

/-- The reference's log-probabilities' array at the drawn position. -/
theorem taken_share (x : Vec Ideal S16x1x512x512 .f32) (b : Fin 16) (z : Fin 1) (p q : Fin 64) :
    val_main_v225 (F := Ideal) x (ix4 b z p q)
      = val_main_v222 (F := Ideal) x (ix5 b z p q (Image.pick x b (Image.spot p q))) := by
  obtain rfl : z = 0 := Subsingleton.elim _ _
  have hn := position_at x b p q 0 0
  have hg (i) : val_main_call1_v12 (F := Ideal) x i = 1#1 := conj_one _ _ _ _ (guard_at x) (fun _ => rfl) i
  have e : val_main_v225 (F := Ideal) x (ix4 b 0 p q) = val_main_v224 (F := Ideal) x (ix5 b 0 p q 0) := by
    unfold val_main_v225
    generalize val_main_v224 (F := Ideal) x = y
    pointwise []
  rw [e, val_main_v224_apply, val_main_call1_v14_apply, hg]
  unfold val_main_call1_v13
  generalize val_main_v222 (F := Ideal) x = y at *
  generalize val_main_call1_v5 (F := Ideal) x = n at *
  exact gather_at y n b 0 p q 0 _ hn

/-- The reference's cells at the drawn position. -/
theorem taken_cell (x : Vec Ideal S16x1x512x512 .f32) (b : Fin 16) (z : Fin 1) (p q : Fin 64) :
    val_main_v228 (F := Ideal) x (ix4 b z p q) = val_main_v2 (F := Ideal) x (ix5 b z p q (Image.pick x b (Image.spot p q))) := by
  obtain rfl : z = 0 := Subsingleton.elim _ _
  have hn : val_main_call2_v5 (F := Ideal) x (ix5 b p q 0 0) = _ := position_at x b p q 0 0
  have hg (i) : val_main_call2_v12 (F := Ideal) x i = 1#1 := conj_one _ _ _ _ (guard_at x) (fun _ => rfl) i
  have e : val_main_v228 (F := Ideal) x (ix4 b 0 p q) = val_main_v227 (F := Ideal) x (ix5 b 0 p q 0) := by
    unfold val_main_v228
    generalize val_main_v227 (F := Ideal) x = y
    pointwise []
  rw [e, val_main_v227_apply, val_main_call2_v14_apply, hg]
  unfold val_main_call2_v13
  generalize val_main_v2 (F := Ideal) x = y at *
  generalize val_main_call2_v5 (F := Ideal) x = n at *
  exact gather_at y n b 0 p q 0 _ hn

/-- The channels' reads' positions, guarded. -/
theorem channel_position_at (x : Vec Ideal S16x1x512x512 .f32) (b : Fin 16) (d : Fin 2) (p q : Fin 64) (u v : Fin 1) :
    val_main_call5_v5 (F := Ideal) x (ix6 b d p q u v) = BitVec.ofNat 32 (Image.pick x b (Image.spot p q)).val := by
  have h := RScore.drawn_at x b 0 p q
  unfold val_main_call5_v5 val_main_call5_v4 val_main_call5_v3 val_main_call5_v2 val_main_call5_v1 val_main_call5_v0 val_main_call5_c
    val_main_call5_c_0 val_main_v472 val_main_v471
  generalize val_main_v221 (F := Ideal) x = y at *
  generalize Image.pick x b (Image.spot p q) = k at *
  pointwise []
  rw [h]
  exact unwrapped k

/-- Their guard holds. -/
theorem channel_guard_at (x : Vec Ideal S16x1x512x512 .f32) (i : S16x2x64x64x1x1.Idx) : val_main_call5_v11 (F := Ideal) x i = 1#1 := by
  idx_vars i
  rw [val_main_call5_v11_apply, val_main_call5_v10_apply, val_main_call5_v9_apply, val_main_call5_v8_apply, val_main_call5_v7_apply,
    val_main_call5_v6_apply, val_main_call5_c_1_apply, val_main_call5_c_2_apply, channel_position_at]
  exact within _

/-- The channels last. -/
theorem channels_last (x : Vec Ideal S16x1x512x512 .f32) (b : Fin 16) (p q : Fin 64) (d : Fin 2) :
    val_main_v475 (F := Ideal) x (ix4 b p q d) = val_main_v473 (F := Ideal) x (ix5 b d p q 0) := by
  unfold val_main_v475 val_main_v474
  generalize val_main_v473 (F := Ideal) x = y
  pointwise []

/-- The channels' guard, as one truth. -/
theorem channel_guarded (x : Vec Ideal S16x1x512x512 .f32) (i) : val_main_call5_v12 (F := Ideal) x i = 1#1 :=
  conj_one _ _ _ _ (channel_guard_at x) (fun _ => rfl) i

/-- The channels' read. -/
theorem channel_read (x : Vec Ideal S16x1x512x512 .f32) (b : Fin 16) (p q : Fin 64) (d : Fin 2) :
    val_main_call5_v13 (F := Ideal) x (ix5 b d p q 0) = val_main_v470 (F := Ideal) (ix5 b d p q (Image.pick x b (Image.spot p q))) := by
  have hn := channel_position_at x b d p q 0 0
  unfold val_main_call5_v13
  generalize val_main_v470 (F := Ideal) = y
  generalize val_main_call5_v5 (F := Ideal) x = n at hn ⊢
  exact gather_channel_at y n b d p q 0 _ hn

/-- The channels' array at the drawn position, channels last. -/
theorem taken_channel (x : Vec Ideal S16x1x512x512 .f32) (b : Fin 16) (p q : Fin 64) (d : Fin 2) :
    val_main_v475 (F := Ideal) x (ix4 b p q d) = val_main_v470 (F := Ideal) (ix5 b d p q (Image.pick x b (Image.spot p q))) := by
  rw [channels_last, val_main_v473_apply, channel_guarded, channel_read]
  exact chosen _ _

end Cert.RTake

end
-- ==== Proof.RShare.lean ====
module

public import proofs.«01_k».proof.Proof.RTake

@[expose] public section

set_option maxRecDepth 16384

noncomputable section

/-! # The reference's log-probabilities

    The log-softmax of a cell at one of its pixels. -/

namespace Cert.RShare

open Idealize.ShloMosaic Cert.ReferenceIdeal Cert.ReferenceIdeal.Gen Cert.ReferenceIdeal.Read Cert.FirstMax

/-- The axis the maximum is taken along. -/
theorem axis : S16x1x64x64x64.Reduces [4] S16x1x64x64 := by decide

/-- A cell's maximum is a fold over its pixels. -/
theorem reduce_at (y : FVec Ideal S16x1x64x64x64 .f32) (c : FVec Ideal S_ .f32) (b : Fin 16) (z : Fin 1) (p q : Fin 64) :
    Host.reduce FloatOps.maximumf y c reducesTo_S16x1x64x64x64_S16x1x64x64_d4 h_S_ (ix4 b z p q)
      = Finset.univ.fold max (c (Shape.Idx.first h_S_)) fun l : Fin 64 => y (ix5 b z p q l) := by
  haveI hc : Std.Commutative (α := EReal) (FloatOps.maximumf (F := Ideal) (φ := .f32)) := ⟨fun u v => max_comm u v⟩
  haveI ha : Std.Associative (α := EReal) (FloatOps.maximumf (F := Ideal) (φ := .f32)) := ⟨fun u v w => max_assoc u v w⟩
  rw [Host.reduce_eq_fold_single FloatOps.maximumf y c _ axis h_S_]
  refine congrArg (Finset.fold max _ · Finset.univ) (funext fun l => congrArg y ?_)
  funext a
  refine Fin.ext ?_
  match a with
  | ⟨0, _⟩ => rfl
  | ⟨1, _⟩ => rfl
  | ⟨2, _⟩ => rfl
  | ⟨3, _⟩ => rfl
  | ⟨4, _⟩ => rfl

/-- The greatest pixel of a cell. -/
theorem top_at (x : Vec Ideal S16x1x512x512 .f32) (b : Fin 16) (p q : Fin 64) :
    val_main_call0_v2 (F := Ideal) x (ix4 b 0 p q) = Spec.top (Image.cell x b (Image.spot p q)) := by
  rw [val_main_call0_v2_apply, val_main_call0_v1_apply, val_main_call0_cst_0_apply]
  unfold val_main_call0_v0
  rw [reduce_at, val_main_call0_cst_apply, Ideal.ofBits_def, Spec.ofBits_bot, Ideal.maximumf_def]
  simp only [RScore.cells_at]
  rw [fold_max, max_eq_right bot_le]
  rfl

/-- A pixel less the greatest of its cell. -/
theorem shifted_at (x : Vec Ideal S16x1x512x512 .f32) (b : Fin 16) (p q l : Fin 64) :
    val_main_call0_v5 (F := Ideal) x (ix5 b 0 p q l)
      = Image.cell x b (Image.spot p q) l - Spec.top (Image.cell x b (Image.spot p q)) := by
  have e : idx_main_call0_v3 (idx_main_call0_v4 (ix5 b 0 p q l)) = ix4 b 0 p q := by
    funext a
    match a with
    | ⟨0, _⟩ => rfl
    | ⟨1, _⟩ => rfl
    | ⟨2, _⟩ => rfl
    | ⟨3, _⟩ => rfl
  rw [val_main_call0_v5_apply, val_main_call0_v4_apply, val_main_call0_v3_apply, e, top_at, RScore.cells_at, Ideal.subf_def]

/-- The logarithm of a pixel's share of its cell. -/
theorem share_at (x : Vec Ideal S16x1x512x512 .f32) (b : Fin 16) (p q l : Fin 64) :
    val_main_v222 (F := Ideal) x (ix5 b 0 p q l) = Spec.logShare (Image.cell x b (Image.spot p q)) l := by
  have e : idx_main_call0_v8 (idx_main_call0_v10 (ix5 b 0 p q l)) = ix4 b 0 p q := by
    funext a
    match a with
    | ⟨0, _⟩ => rfl
    | ⟨1, _⟩ => rfl
    | ⟨2, _⟩ => rfl
    | ⟨3, _⟩ => rfl
  have e' (k : Fin 64) : idx_main_call0_v7 (ix4 b 0 p q) k = ix5 b 0 p q k := by
    funext a
    match a with
    | ⟨0, _⟩ => rfl
    | ⟨1, _⟩ => rfl
    | ⟨2, _⟩ => rfl
    | ⟨3, _⟩ => rfl
    | ⟨4, _⟩ => rfl
  have h (k : Fin 64) : val_main_call0_v6 (F := Ideal) x (idx_main_call0_v7 (ix4 b 0 p q) k)
      = Ideal.exp (Image.cell x b (Image.spot p q) k - Spec.top (Image.cell x b (Image.spot p q))) := by
    rw [e', val_main_call0_v6_apply, shifted_at, Ideal.hostUnary_exp_def]
  rw [val_main_v222_apply, val_main_call0_v10_apply, val_main_call0_v9_apply, val_main_call0_v8_apply, e, val_main_call0_v7_apply,
    Finset.sum_congr rfl fun k _ => h k, shifted_at, val_main_call0_cst_1_apply, Ideal.ofBits_def, Ideal.ofBits_zero_f32, zero_add,
    Ideal.hostUnary_log_def, Ideal.subf_def, Spec.logShare]

end Cert.RShare

end
-- ==== Proof.RWords2.lean ====
module

public import proofs.«01_k».proof.Proof.Words
public import proofs.«01_k».proof.Proof.Gen.ReferenceIdeal.Read

@[expose] public section

set_option maxHeartbeats 1000000

noncomputable section

/-! # The reference's second random words

    The words the reference draws for every cell of the array, read group by group of its rounds. -/

namespace Cert.RWords2

open Idealize.ShloMosaic Cert.ReferenceIdeal Cert.ReferenceIdeal.Read Cert.Words

/-- The number of an element, counted row by row through the array. -/
def count (i : S16x1x64x64.Idx) : ℕ :=
  4096 * (i 0).val + 4096 * (i 1).val + 64 * (i 2).val + 1 * (i 3).val

/-- Every element's number is below `2 ^ 32`. -/
theorem count_lt (i : S16x1x64x64.Idx) : count i < 2 ^ 32 := by
  have h0 : (i 0).val < 16 := (i 0).isLt
  have h1 : (i 1).val < 1 := (i 1).isLt
  have h2 : (i 2).val < 64 := (i 2).isLt
  have h3 : (i 3).val < 64 := (i 3).isLt
  unfold count; omega

/-- The reference's 64-bit counter is that number. -/
theorem counter (i : S16x1x64x64.Idx) : val_main_v249 (F := Ideal) i = BitVec.ofNat 64 (count i) := by
  simp only [count, BitVec.ofNat_add, BitVec.ofNat_mul, IntOp.addi, IntOp.muli,
    val_main_v249_apply, val_main_v248_apply, val_main_v247_apply, val_main_v240_apply, val_main_v239_apply, val_main_c_62_apply,
    val_main_v235_apply, val_main_v242_apply, val_main_v241_apply, val_main_c_63_apply, val_main_v236_apply, val_main_v244_apply,
    val_main_v243_apply, val_main_c_64_apply, val_main_v237_apply, val_main_v246_apply, val_main_v245_apply, val_main_c_65_apply,
    val_main_v238_apply]

/-- The key's third word. -/
theorem third (i : S_.Idx) : val_main_v255 (F := Ideal) i = 1321211378#32 := by
  simp only [IntOp.xori,
    val_main_v255_apply, val_main_v254_apply, val_main_c_1_apply, val_main_c_2_apply, val_main_c_67_apply]
  decide

/-- The rounds' start. -/
theorem start_eq (i : S16x1x64x64.Idx) :
    val_main_v257 (F := Ideal) i = (start 4146024105#32 2718843009#32 (BitVec.ofNat 32 (count i))).1
    ∧ val_main_v259 (F := Ideal) i = (start 4146024105#32 2718843009#32 (BitVec.ofNat 32 (count i))).2 := by
  have hlo : (BitVec.ofNat 64 (count i)).setWidth 32 = BitVec.ofNat 32 (count i) :=
    BitVec.setWidth_ofNat_of_le (by decide) _
  have hhi : (IntOp.shrui .host (BitVec.ofNat 64 (count i)) 32#64).setWidth 32 = 0#32 := by
    have hc := count_lt i
    have hs : IntOp.shrui .host (BitVec.ofNat 64 (count i)) 32#64 = BitVec.ofNat 64 (count i) >>> 32 :=
      if_pos (by decide)
    apply BitVec.eq_of_toNat_eq
    rw [hs]
    simp only [BitVec.toNat_setWidth, BitVec.toNat_ushiftRight, BitVec.toNat_ofNat, Nat.shiftRight_eq_div_pow]
    rw [Nat.mod_eq_of_lt (show count i < 2 ^ 64 by omega), Nat.div_eq_of_lt hc]
  constructor
  · simp only [start, IntOp.addi, counter, hhi, BitVec.zero_add,
    val_main_v257_apply, val_main_v253_apply, val_main_v251_apply, val_main_v250_apply, val_main_c_66_apply, val_main_v256_apply,
    val_main_c_1_apply]
  · simp only [start, IntOp.addi, counter, hlo,
    val_main_v259_apply, val_main_v252_apply, val_main_v258_apply, val_main_c_2_apply]

/-- The first group of rounds and the key words after it. -/
theorem group1 (i : S16x1x64x64.Idx) (s : W × W)
    (h : val_main_v257 (F := Ideal) i = s.1) (h' : val_main_v259 (F := Ideal) i = s.2) :
    val_main_v289 (F := Ideal) i = (inject 2718843009#32 1321211378#32 1#32 (fourA s)).1
    ∧ val_main_v293 (F := Ideal) i = (inject 2718843009#32 1321211378#32 1#32 (fourA s)).2 := by
  constructor <;> simp (disch := decide) only [h, h', third, fourA, threeA, IntOp.addi, IntOp.xori, IntOp.ori, shli_lt, shrui_lt, mix_fst, mix_turn, inject_fst, inject_snd,
    val_main_v289_apply, val_main_v281_apply, val_main_v274_apply, val_main_v267_apply, val_main_v260_apply, val_main_v266_apply,
    val_main_v265_apply, val_main_v262_apply, val_main_v261_apply, val_main_c_68_apply, val_main_v264_apply, val_main_v263_apply,
    val_main_c_69_apply, val_main_v273_apply, val_main_v272_apply, val_main_v269_apply, val_main_v268_apply, val_main_c_70_apply,
    val_main_v271_apply, val_main_v270_apply, val_main_c_71_apply, val_main_v280_apply, val_main_v279_apply, val_main_v276_apply,
    val_main_v275_apply, val_main_c_72_apply, val_main_v278_apply, val_main_v277_apply, val_main_c_73_apply, val_main_v288_apply,
    val_main_c_2_apply, val_main_v293_apply, val_main_v291_apply, val_main_v287_apply, val_main_v286_apply, val_main_v283_apply,
    val_main_v282_apply, val_main_c_74_apply, val_main_v285_apply, val_main_v284_apply, val_main_c_75_apply, val_main_v290_apply,
    val_main_v292_apply, val_main_c_76_apply]

/-- The second group of rounds and the key words after it. -/
theorem group2 (i : S16x1x64x64.Idx) (s : W × W)
    (h : val_main_v289 (F := Ideal) i = s.1) (h' : val_main_v293 (F := Ideal) i = s.2) :
    val_main_v323 (F := Ideal) i = (inject 1321211378#32 4146024105#32 2#32 (fourB s)).1
    ∧ val_main_v327 (F := Ideal) i = (inject 1321211378#32 4146024105#32 2#32 (fourB s)).2 := by
  constructor <;> simp (disch := decide) only [h, h', third, fourB, threeB, IntOp.addi, IntOp.xori, IntOp.ori, shli_lt, shrui_lt, mix_fst, mix_turn, inject_fst, inject_snd,
    val_main_v323_apply, val_main_v315_apply, val_main_v308_apply, val_main_v301_apply, val_main_v294_apply, val_main_v300_apply,
    val_main_v299_apply, val_main_v296_apply, val_main_v295_apply, val_main_c_77_apply, val_main_v298_apply, val_main_v297_apply,
    val_main_c_78_apply, val_main_v307_apply, val_main_v306_apply, val_main_v303_apply, val_main_v302_apply, val_main_c_79_apply,
    val_main_v305_apply, val_main_v304_apply, val_main_c_80_apply, val_main_v314_apply, val_main_v313_apply, val_main_v310_apply,
    val_main_v309_apply, val_main_c_81_apply, val_main_v312_apply, val_main_v311_apply, val_main_c_82_apply, val_main_v322_apply,
    val_main_v327_apply, val_main_v325_apply, val_main_v321_apply, val_main_v320_apply, val_main_v317_apply, val_main_v316_apply,
    val_main_c_83_apply, val_main_v319_apply, val_main_v318_apply, val_main_c_84_apply, val_main_v324_apply, val_main_c_1_apply,
    val_main_v326_apply, val_main_c_85_apply]

/-- The third group of rounds and the key words after it. -/
theorem group3 (i : S16x1x64x64.Idx) (s : W × W)
    (h : val_main_v323 (F := Ideal) i = s.1) (h' : val_main_v327 (F := Ideal) i = s.2) :
    val_main_v357 (F := Ideal) i = (inject 4146024105#32 2718843009#32 3#32 (fourA s)).1
    ∧ val_main_v361 (F := Ideal) i = (inject 4146024105#32 2718843009#32 3#32 (fourA s)).2 := by
  constructor <;> simp (disch := decide) only [h, h', third, fourA, threeA, IntOp.addi, IntOp.xori, IntOp.ori, shli_lt, shrui_lt, mix_fst, mix_turn, inject_fst, inject_snd,
    val_main_v357_apply, val_main_v349_apply, val_main_v342_apply, val_main_v335_apply, val_main_v328_apply, val_main_v334_apply,
    val_main_v333_apply, val_main_v330_apply, val_main_v329_apply, val_main_c_86_apply, val_main_v332_apply, val_main_v331_apply,
    val_main_c_87_apply, val_main_v341_apply, val_main_v340_apply, val_main_v337_apply, val_main_v336_apply, val_main_c_88_apply,
    val_main_v339_apply, val_main_v338_apply, val_main_c_89_apply, val_main_v348_apply, val_main_v347_apply, val_main_v344_apply,
    val_main_v343_apply, val_main_c_90_apply, val_main_v346_apply, val_main_v345_apply, val_main_c_91_apply, val_main_v356_apply,
    val_main_c_1_apply, val_main_v361_apply, val_main_v359_apply, val_main_v355_apply, val_main_v354_apply, val_main_v351_apply,
    val_main_v350_apply, val_main_c_92_apply, val_main_v353_apply, val_main_v352_apply, val_main_c_93_apply, val_main_v358_apply,
    val_main_c_2_apply, val_main_v360_apply, val_main_c_94_apply]

/-- The fourth group of rounds and the key words after it. -/
theorem group4 (i : S16x1x64x64.Idx) (s : W × W)
    (h : val_main_v357 (F := Ideal) i = s.1) (h' : val_main_v361 (F := Ideal) i = s.2) :
    val_main_v391 (F := Ideal) i = (inject 2718843009#32 1321211378#32 4#32 (fourB s)).1
    ∧ val_main_v395 (F := Ideal) i = (inject 2718843009#32 1321211378#32 4#32 (fourB s)).2 := by
  constructor <;> simp (disch := decide) only [h, h', third, fourB, threeB, IntOp.addi, IntOp.xori, IntOp.ori, shli_lt, shrui_lt, mix_fst, mix_turn, inject_fst, inject_snd,
    val_main_v391_apply, val_main_v383_apply, val_main_v376_apply, val_main_v369_apply, val_main_v362_apply, val_main_v368_apply,
    val_main_v367_apply, val_main_v364_apply, val_main_v363_apply, val_main_c_95_apply, val_main_v366_apply, val_main_v365_apply,
    val_main_c_96_apply, val_main_v375_apply, val_main_v374_apply, val_main_v371_apply, val_main_v370_apply, val_main_c_97_apply,
    val_main_v373_apply, val_main_v372_apply, val_main_c_98_apply, val_main_v382_apply, val_main_v381_apply, val_main_v378_apply,
    val_main_v377_apply, val_main_c_99_apply, val_main_v380_apply, val_main_v379_apply, val_main_c_100_apply, val_main_v390_apply,
    val_main_c_2_apply, val_main_v395_apply, val_main_v393_apply, val_main_v389_apply, val_main_v388_apply, val_main_v385_apply,
    val_main_v384_apply, val_main_c_101_apply, val_main_v387_apply, val_main_v386_apply, val_main_c_102_apply, val_main_v392_apply,
    val_main_v394_apply, val_main_c_103_apply]

/-- The fifth group of rounds and the key words after it. -/
theorem group5 (i : S16x1x64x64.Idx) (s : W × W)
    (h : val_main_v391 (F := Ideal) i = s.1) (h' : val_main_v395 (F := Ideal) i = s.2) :
    val_main_v425 (F := Ideal) i = (inject 1321211378#32 4146024105#32 5#32 (fourA s)).1
    ∧ val_main_v429 (F := Ideal) i = (inject 1321211378#32 4146024105#32 5#32 (fourA s)).2 := by
  constructor <;> simp (disch := decide) only [h, h', third, fourA, threeA, IntOp.addi, IntOp.xori, IntOp.ori, shli_lt, shrui_lt, mix_fst, mix_turn, inject_fst, inject_snd,
    val_main_v425_apply, val_main_v417_apply, val_main_v410_apply, val_main_v403_apply, val_main_v396_apply, val_main_v402_apply,
    val_main_v401_apply, val_main_v398_apply, val_main_v397_apply, val_main_c_104_apply, val_main_v400_apply, val_main_v399_apply,
    val_main_c_105_apply, val_main_v409_apply, val_main_v408_apply, val_main_v405_apply, val_main_v404_apply, val_main_c_106_apply,
    val_main_v407_apply, val_main_v406_apply, val_main_c_107_apply, val_main_v416_apply, val_main_v415_apply, val_main_v412_apply,
    val_main_v411_apply, val_main_c_108_apply, val_main_v414_apply, val_main_v413_apply, val_main_c_109_apply, val_main_v424_apply,
    val_main_v429_apply, val_main_v427_apply, val_main_v423_apply, val_main_v422_apply, val_main_v419_apply, val_main_v418_apply,
    val_main_c_110_apply, val_main_v421_apply, val_main_v420_apply, val_main_c_111_apply, val_main_v426_apply, val_main_c_1_apply,
    val_main_v428_apply, val_main_c_112_apply]

/-- The word the reference draws for an element. -/
theorem word (i : S16x1x64x64.Idx) :
    val_main_v430 (F := Ideal) i = bits2 (BitVec.ofNat 32 (count i)) := by
  obtain ⟨a0, b0⟩ := start_eq i
  obtain ⟨a1, b1⟩ := group1 i _ a0 b0
  obtain ⟨a2, b2⟩ := group2 i _ a1 b1
  obtain ⟨a3, b3⟩ := group3 i _ a2 b2
  obtain ⟨a4, b4⟩ := group4 i _ a3 b3
  obtain ⟨a5, b5⟩ := group5 i _ a4 b4
  rw [val_main_v430_apply, a5, b5]
  rfl

end Cert.RWords2

end
-- ==== Proof.RAccept.lean ====
module

public import proofs.«01_k».proof.Proof.RShare
public import proofs.«01_k».proof.Proof.RWords2

@[expose] public section

set_option maxRecDepth 16384

noncomputable section

/-! # The reference's acceptances

    A cell's uniform number, its comparison with the sigmoid of the drawn pixel, and the logarithm of that outcome's chance. -/

namespace Cert.RAccept

open Idealize.ShloMosaic Cert.ReferenceIdeal Cert.ReferenceIdeal.Gen Cert.ReferenceIdeal.Read Cert.Words

/-- A cell's number in [0, 1). -/
theorem unit_at (i : S16x1x64x64.Idx) : val_main_v443 (F := Ideal) i = Spec.unit (bits2 (BitVec.ofNat 32 (RWords2.count i))) := by
  rw [val_main_v443_apply, val_main_v442_apply, val_main_v441_apply, val_main_v440_apply, val_main_v439_apply, val_main_v438_apply,
    val_main_v437_apply, val_main_v436_apply, val_main_v435_apply, val_main_v434_apply, val_main_v433_apply, val_main_v432_apply,
    val_main_v431_apply, val_main_c_113_apply, val_main_c_114_apply, val_main_cst_115_apply, val_main_cst_116_apply,
    val_main_cst_117_apply, val_main_cst_118_apply, RWords2.word]
  generalize bits2 (BitVec.ofNat 32 (RWords2.count i)) = w
  rw [shrui_lt _ _ _ (by decide)]
  simp only [Ideal.ofBits_def, Ideal.ofBits_zero_f32, Spec.ofBits_one, Ideal.subf_def, Ideal.addf_def, Ideal.mulf_def, Ideal.maximumf_def]
  exact Spec.max_zero w

/-- The drawn pixel's sigmoid. -/
theorem sigmoid_at (x : Vec Ideal S16x1x512x512 .f32) (i : S16x1x64x64.Idx) :
    val_main_v234 (F := Ideal) x i = Ideal.logistic (val_main_v228 (F := Ideal) x i) := by
  rw [val_main_v234_apply, val_main_v233_apply, val_main_v232_apply, val_main_v231_apply, val_main_v230_apply, val_main_v229_apply,
    val_main_cst_60_apply, val_main_cst_61_apply]
  generalize val_main_v228 (F := Ideal) x i = s
  simp only [Ideal.ofBits_def, Spec.ofBits_one, Ideal.addf_def, Ideal.hostDivf_def, Ideal.hostUnary_exp_def, Ideal.hostNegf_def, Ideal.negf_def]
  rfl

/-- The acceptance, as a bit. -/
theorem bit_at (x : Vec Ideal S16x1x512x512 .f32) (i : S16x1x64x64.Idx) :
    val_main_v444 (F := Ideal) x i
      = BitVec.ofBool (decide (Spec.unit (bits2 (BitVec.ofNat 32 (RWords2.count i))) < Ideal.logistic (val_main_v228 (F := Ideal) x i))) := by
  rw [val_main_v444_apply, unit_at, sigmoid_at, Ideal.cmpf_def]
  generalize Spec.unit _ = u
  generalize Ideal.logistic _ = v
  rfl

/-- The acceptance, as a number. -/
theorem accept_at (x : Vec Ideal S16x1x512x512 .f32) (i : S16x1x64x64.Idx) :
    val_main_v445 (F := Ideal) x i
      = Spec.accept (val_main_v228 (F := Ideal) x i) (bits2 (BitVec.ofNat 32 (RWords2.count i))) := by
  rw [val_main_v445_apply, bit_at, ← Spec.accept_unsigned]
  generalize BitVec.ofBool _ = u
  rfl

/-- The reference's spelling of the logarithm of a sigmoid. -/
theorem softplus (s t : Ideal .f32) (h : t = FloatOps.hostNegf s) :
    FloatOps.hostNegf (F := Ideal) (φ := .f32) (Scalar.select (FloatOps.cmpf .une (FloatOps.subf t (FloatOps.ofBits .f32 0x00000000#32))
        (FloatOps.subf t (FloatOps.ofBits .f32 0x00000000#32))) (FloatOps.addf t (FloatOps.ofBits .f32 0x00000000#32))
      (FloatOps.addf (FloatOps.maximumf t (FloatOps.ofBits .f32 0x00000000#32)) (FloatOps.hostUnary .log1p (FloatOps.hostUnary .exp
        (FloatOps.hostNegf (FloatOps.hostAbsf (FloatOps.subf t (FloatOps.ofBits .f32 0x00000000#32))))))))
      = Spec.logSigmoid s := by
  have hs (u : EReal) : u - 0 = u := by rw [sub_eq_add_neg, neg_zero, add_zero]
  have hc : Ideal.cmp .une t t = 0#1 := by
    show BitVec.ofBool (decide (t ≠ t)) = 0#1
    simp
  simp only [Ideal.ofBits_def, Ideal.ofBits_zero_f32, Ideal.subf_def, Ideal.addf_def, Ideal.maximumf_def, Ideal.hostUnary_exp_def,
    Ideal.hostUnary_log1p_def, Ideal.hostNegf_def, Ideal.hostAbsf_def, Ideal.negf_def, Ideal.absf_def, Ideal.cmpf_def, hs, hc]
  rw [h, Ideal.hostNegf_def, Ideal.negf_def]
  exact Spec.neg_softplus s

/-- The chance of acceptance, in logarithm. -/
theorem yes_at (x : Vec Ideal S16x1x512x512 .f32) (i : S16x1x64x64.Idx) :
    val_main_v446 (F := Ideal) x i = Spec.logSigmoid (val_main_v228 (F := Ideal) x i) := by
  rw [val_main_v446_apply, val_main_call3_v1_apply, val_main_call3_call0_v11_apply, val_main_call3_call0_v10_apply, val_main_call3_call0_v9_apply,
    val_main_call3_call0_v8_apply, val_main_call3_call0_v7_apply, val_main_call3_call0_v6_apply, val_main_call3_call0_v5_apply,
    val_main_call3_call0_v4_apply, val_main_call3_call0_v3_apply, val_main_call3_call0_v2_apply, val_main_call3_call0_v1_apply,
    val_main_call3_call0_v0_apply, val_main_call3_v0_apply]
  simp only [val_main_call3_call0_cst_apply]
  generalize val_main_v228 (F := Ideal) x i = s
  exact softplus s _ rfl

/-- The chance of refusal, in logarithm. -/
theorem no_at (x : Vec Ideal S16x1x512x512 .f32) (i : S16x1x64x64.Idx) :
    val_main_v451 (F := Ideal) x i = Spec.logSigmoid (-val_main_v228 (F := Ideal) x i) := by
  rw [val_main_v451_apply, val_main_call4_v1_apply, val_main_call4_call0_v11_apply, val_main_call4_call0_v10_apply, val_main_call4_call0_v9_apply,
    val_main_call4_call0_v8_apply, val_main_call4_call0_v7_apply, val_main_call4_call0_v6_apply, val_main_call4_call0_v5_apply,
    val_main_call4_call0_v4_apply, val_main_call4_call0_v3_apply, val_main_call4_call0_v2_apply, val_main_call4_call0_v1_apply,
    val_main_call4_call0_v0_apply, val_main_call4_v0_apply, val_main_v450_apply]
  simp only [val_main_call4_call0_cst_apply]
  generalize val_main_v228 (F := Ideal) x i = s
  exact softplus (FloatOps.hostNegf s) _ rfl

/-- The outcome's chance, in logarithm. -/
theorem chance_at (x : Vec Ideal S16x1x512x512 .f32) (i : S16x1x64x64.Idx) :
    val_main_v453 (F := Ideal) x i
      = Spec.logAccept (val_main_v228 (F := Ideal) x i)
          (Spec.accept (val_main_v228 (F := Ideal) x i) (bits2 (BitVec.ofNat 32 (RWords2.count i)))) := by
  rw [val_main_v453_apply, val_main_v452_apply, val_main_v449_apply, val_main_v448_apply, val_main_v447_apply, val_main_cst_119_apply,
    yes_at, no_at, accept_at, Ideal.ofBits_def, Spec.ofBits_one]
  generalize val_main_v228 (F := Ideal) x i = s
  generalize Spec.accept s _ = u
  rfl

end Cert.RAccept

end
-- ==== Proof.RPoints.lean ====
module

public import proofs.«01_k».proof.Proof.RTake

@[expose] public section

set_option maxRecDepth 16384

noncomputable section

/-! # The reference's channels

    The two channels cut into cells hold every pixel's row and column. -/

namespace Cert.RPoints

open Idealize.ShloMosaic Cert.ReferenceIdeal Cert.ReferenceIdeal.Gen Cert.ReferenceIdeal.Read

/-- The numbers along an axis. -/
theorem axis_at (n : Fin 512) : val_main_v459 (F := Ideal) (ix1 n) = ((n.val : ℝ) : EReal) := by
  show (((BitVec.ofNat 32 n.val).toInt : ℝ) : EReal) = _
  rw [Spec.toInt_small _ (by omega)]
  simp

/-- The first channel holds rows. -/
theorem row_at (b : Fin 16) (p q l : Fin 64) :
    val_main_v470 (F := Ideal) (ix5 b 0 p q l) = Spec.row (Image.spot p q).val l := by
  have e : val_main_v470 (F := Ideal) (ix5 b 0 p q l) = val_main_v459 (F := Ideal) (ix1 ⟨8 * p.val + l.val / 8, by omega⟩) := by
    unfold val_main_v470 val_main_v469 val_main_v468 val_main_v467 val_main_v466 val_main_v465 val_main_v463 val_main_v464 val_main_v461
      val_main_v462
    generalize val_main_v459 (F := Ideal) = y
    generalize val_main_v460 (F := Ideal) = y'
    pointwise []
    refine congrArg (fun n => y (ix1 n)) (Fin.ext ?_)
    show p.val * 8 + _ = 8 * p.val + _
    omega
  rw [e, axis_at]
  unfold Spec.row Image.spot
  dsimp only
  congr 3
  omega

/-- The second channel holds columns. -/
theorem column_at (b : Fin 16) (p q l : Fin 64) :
    val_main_v470 (F := Ideal) (ix5 b 1 p q l) = Spec.column (Image.spot p q).val l := by
  have e : val_main_v470 (F := Ideal) (ix5 b 1 p q l) = val_main_v460 (F := Ideal) (ix1 ⟨8 * q.val + l.val % 8, by omega⟩) := by
    unfold val_main_v470 val_main_v469 val_main_v468 val_main_v467 val_main_v466 val_main_v465 val_main_v463 val_main_v464 val_main_v461
      val_main_v462
    generalize val_main_v459 (F := Ideal) = y
    generalize val_main_v460 (F := Ideal) = y'
    pointwise []
    refine congrArg (fun n => y' (ix1 n)) (Fin.ext ?_)
    show q.val * 8 + _ = 8 * q.val + _
    omega
  rw [e]
  refine (axis_at _).trans ?_
  unfold Spec.column Image.spot
  dsimp only
  congr 3
  omega

/-- The reference's points: each drawn pixel's column and row. -/
theorem points_at (x : Vec Ideal S16x1x512x512 .f32) : val_main_v476 (F := Ideal) x = Image.points x := by
  funext j
  idx_vars j
  unfold val_main_v476
  have h := RTake.taken_channel x
  generalize val_main_v475 (F := Ideal) x = y at h ⊢
  have e : Host.reverse [3] y (ix4 j0 j1 j2 j3) = y (ix4 j0 j1 j2 j3.rev) := by
    refine congrArg y (funext fun a => ?_)
    match a with
    | ⟨0, _⟩ => rfl
    | ⟨1, _⟩ => rfl
    | ⟨2, _⟩ => rfl
    | ⟨3, _⟩ => rfl
  rw [e, h]
  match j3 with
  | ⟨0, _⟩ => exact column_at j0 j1 j2 _
  | ⟨1, _⟩ => exact row_at j0 j1 j2 _

end Cert.RPoints

end
-- ==== Proof.RResults.lean ====
module

public import proofs.«01_k».proof.Proof.RAccept
public import proofs.«01_k».proof.Proof.RPoints

@[expose] public section

set_option maxRecDepth 16384

noncomputable section

/-! # The reference's results

    Its log-probabilities, its mask and its points are the ones written of the image. -/

namespace Cert.RResults

open Idealize.ShloMosaic Cert.ReferenceIdeal Cert.ReferenceIdeal.Gen Cert.ReferenceIdeal.Read Cert.Words

/-- The number of a cell is its place among all of them. -/
theorem count_at (b : Fin 16) (p q : Fin 64) : RWords2.count (ix4 b 0 p q) = Image.number b (Image.spot p q) := by
  show 4096 * b.val + 4096 * 0 + 64 * p.val + 1 * q.val = 4096 * b.val + (64 * p.val + q.val)
  omega

/-- The drawn pixel. -/
theorem drawn_at (x : Vec Ideal S16x1x512x512 .f32) (b : Fin 16) (p q : Fin 64) :
    val_main_v228 (F := Ideal) x (ix4 b 0 p q)
      = Image.cell x b (Image.spot p q) (Image.pick x b (Image.spot p q)) := by
  rw [RTake.taken_cell, RScore.cells_at]

/-- The acceptance. -/
theorem accepted_at (x : Vec Ideal S16x1x512x512 .f32) (b : Fin 16) (p q : Fin 64) :
    val_main_v445 (F := Ideal) x (ix4 b 0 p q) = Image.accepted x b (Image.spot p q) := by
  rw [RAccept.accept_at, drawn_at, count_at]
  rfl

/-- The log-probability. -/
theorem prob_at (x : Vec Ideal S16x1x512x512 .f32) (b : Fin 16) (p q : Fin 64) :
    val_main_v454 (F := Ideal) x (ix4 b 0 p q) = Image.logProb x b (Image.spot p q) := by
  rw [val_main_v454_apply, RTake.taken_share, RShare.share_at, RAccept.chance_at, drawn_at, count_at, Ideal.addf_def]
  rfl

/-- The reference's log-probabilities. -/
theorem probs (x : Vec Ideal S16x1x512x512 .f32) : val_main_v455 (F := Ideal) x = Image.probs x := by
  funext j
  idx_vars j
  have h := prob_at x
  unfold val_main_v455
  generalize val_main_v454 (F := Ideal) x = y at h ⊢
  pointwise []
  rw [h]
  rfl

/-- The reference's mask. -/
theorem mask (x : Vec Ideal S16x1x512x512 .f32) : val_main_v458 (F := Ideal) x = Image.mask x := by
  funext j
  idx_vars j
  have h (b : Fin 16) (p q : Fin 64) : val_main_v457 (F := Ideal) x (ix4 b 0 p q)
      = BitVec.ofBool (decide (0 < Image.accepted x b (Image.spot p q))) := by
    rw [val_main_v457_apply, val_main_v456_apply, val_main_cst_120_apply, accepted_at, Ideal.ofBits_def, Ideal.ofBits_zero_f32, Ideal.cmpf_def]
    generalize Image.accepted x b (Image.spot p q) = u
    rfl
  unfold val_main_v458
  generalize val_main_v457 (F := Ideal) x = y at h ⊢
  pointwise []
  rw [h]
  rfl

end Cert.RResults

end
-- ==== Proof.Equation.lean ====
module

public import proofs.«01_k».proof.Defs
public import proofs.«01_k».proof.Proof.KResults
public import proofs.«01_k».proof.Proof.RResults
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

/-! # The equation

    From memories holding one batch, the kernel and the reference both run and end with the same three results. -/

namespace Cert.Equation

open Idealize.ShloMosaic Idealize.SL.Sem

section Reference

open Cert.ReferenceIdeal

variable (m : (ℓ : Loc nD τ sig) → Buf (Elt Ideal) ℓ) (ρ : Dev nD → PrngReg)

/-- The reference runs and ends with the points, log-probabilities and mask of its argument. -/
theorem reference : θ_run (defs (F := Ideal)) (onTc (τ := τ) (main (F := Ideal))) ⟨m, fun _ => 0, ρ⟩ fun r => ∀ c : Dev nD,
    r.2.mem ((c.tc : Thread nD τ).loc main_v476) = Image.points (m ((c.tc : Thread nD τ).loc main_arg0))
    ∧ r.2.mem ((c.tc : Thread nD τ).loc main_v455) = Image.probs (m ((c.tc : Thread nD τ).loc main_arg0))
    ∧ r.2.mem ((c.tc : Thread nD τ).loc main_v458) = Image.mask (m ((c.tc : Thread nD τ).loc main_arg0))
    ∧ r.2.mem ((c.tc : Thread nD τ).loc main_arg0) = m ((c.tc : Thread nD τ).loc main_arg0) :=
  (θ_run defs _ _).mono (fun r h c =>
    ⟨(h c).1.trans ((Read.val_main_v476_eq _).trans (RPoints.points_at _)),
     (h c).2.1.trans ((Read.val_main_v455_eq _).trans (RResults.probs _)),
     (h c).2.2.1.trans ((Read.val_main_v458_eq _).trans (RResults.mask _)),
     (h c).2.2.2⟩) (Value.run m ρ)

end Reference

/-- The kernel's results are the reference's. -/
theorem algebraic : Cert.algebraic_KernelIdeal_ReferenceIdeal := by
  intro m g m' g' _ hagree
  refine ⟨fun c => Image.points (KArrays.batch m c), fun c => Image.probs (KArrays.batch m c), fun c => Image.mask (KArrays.batch m c), ?_, ?_⟩
  · exact (θ_run Cert.KernelIdeal.defs _ _).mono (fun r h c =>
      ⟨(h c).1.trans (KResults.points m c), (h c).2.1.trans (KResults.probs m c), (h c).2.2.1.trans (KResults.mask m c), (h c).2.2.2⟩)
      (Cert.KernelIdeal.Value.run m g)
  · refine (θ_run Cert.ReferenceIdeal.defs _ _).mono (fun r h c => ?_) (reference m' g')
    have e := h c
    rw [hagree c] at e
    rw [hagree c]
    exact e

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Run
public import proofs.«01_k».proof.Proof.Gen.KernelIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three programs run and leave their argument as it was, the idealized kernel preserves the kernel, and the idealized
    kernel's three results are the idealized reference's. -/
theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ,
    fun m ρ _ => (θ_run Cert.ReferenceIdeal.defs _ _).mono
      (fun r h => ⟨fun c => (h c).2.2.2, Idealize.ShloMosaic.sem_eq_zero_of_no_sems (by decide) r.2⟩)
      (Cert.ReferenceIdeal.Value.run m ρ), trivial, Cert.Equation.algebraic⟩⟩

end Cert.Proof

end
